-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S10000 : Shape := ⟨1, ![10000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x160000 : Shape := ⟨2, ![1, 160000]⟩
abbrev S160000 : Shape := ⟨1, ![160000]⟩
abbrev S10000x512 : Shape := ⟨2, ![10000, 512]⟩
abbrev S1x512 : Shape := ⟨2, ![1, 512]⟩
abbrev S_ : Shape := ⟨0, ![]⟩
abbrev S170000 : Shape := ⟨1, ![170000]⟩
abbrev S170000x1 : Shape := ⟨2, ![170000, 1]⟩
abbrev S170000x512 : Shape := ⟨2, ![170000, 512]⟩
abbrev S170000x256 : Shape := ⟨2, ![170000, 256]⟩
abbrev S1x256 : Shape := ⟨2, ![1, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S1x1 : Shape := ⟨2, ![1, 1]⟩
abbrev S64x512 : Shape := ⟨2, ![64, 512]⟩

abbrev nBuf : Space → Nat
  | .hbm => 280
  | .vmem => 13
  | .smem => 0
  | _ => 0

abbrev hbmTy0_0 (i : Nat) : BufTy := match i % 128 with
  | 0 => ⟨S10000x256, .f32⟩
  | 1 => ⟨S2x160000, .i32⟩
  | 2 => ⟨S10000, .i32⟩
  | 3 => ⟨S256x512, .f32⟩
  | 4 => ⟨S512, .f32⟩
  | 5 => ⟨S512x512, .f32⟩
  | 6 => ⟨S512, .f32⟩
  | 7 => ⟨S512, .f32⟩
  | 8 => ⟨S512, .f32⟩
  | 9 => ⟨S512x256, .f32⟩
  | 10 => ⟨S256, .f32⟩
  | 11 => ⟨S256, .f32⟩
  | 12 => ⟨S256, .f32⟩
  | 13 => ⟨S256x512, .f32⟩
  | 14 => ⟨S512, .f32⟩
  | 15 => ⟨S512, .f32⟩
  | 16 => ⟨S512, .f32⟩
  | 17 => ⟨S512x256, .f32⟩
  | 18 => ⟨S256, .f32⟩
  | 19 => ⟨S256, .f32⟩
  | 20 => ⟨S256, .f32⟩
  | 21 => ⟨S256x1, .f32⟩
  | 22 => ⟨S1, .f32⟩
  | 23 => ⟨S1x160000, .i32⟩
  | 24 => ⟨S160000, .i32⟩
  | 25 => ⟨S1x160000, .i32⟩
  | 26 => ⟨S160000, .i32⟩
  | 27 => ⟨S10000x512, .f32⟩
  | 28 => ⟨S1x512, .f32⟩
  | 29 => ⟨S10000x512, .f32⟩
  | 30 => ⟨S10000x512, .f32⟩
  | 31 => ⟨S_, .f32⟩
  | 32 => ⟨S10000x512, .f32⟩
  | 33 => ⟨S10000x512, .f32⟩
  | 34 => ⟨S10000, .i32⟩
  | 35 => ⟨S170000, .i32⟩
  | 36 => ⟨S170000, .i32⟩
  | 37 => ⟨S_, .f32⟩
  | 38 => ⟨S10000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S_, .f32⟩
  | 48 => ⟨S170000, .f32⟩
  | 49 => ⟨S10000, .f32⟩
  | 50 => ⟨S_, .f32⟩
  | 51 => ⟨S10000, .f32⟩
  | 52 => ⟨S10000, .f32⟩
  | 53 => ⟨S10000, .f32⟩
  | 54 => ⟨S_, .i32⟩
  | 55 => ⟨S170000, .i32⟩
  | 56 => ⟨S170000, .i1⟩
  | 57 => ⟨S_, .i32⟩
  | 58 => ⟨S170000, .i32⟩
  | 59 => ⟨S170000, .i32⟩
  | 60 => ⟨S170000, .i32⟩
  | 61 => ⟨S170000x1, .i32⟩
  | 62 => ⟨S170000, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S170000, .f32⟩
  | 72 => ⟨S170000, .f32⟩
  | 73 => ⟨S10000x512, .f32⟩
  | 74 => ⟨S_, .f32⟩
  | 75 => ⟨S10000x512, .f32⟩
  | 76 => ⟨S_, .i32⟩
  | 77 => ⟨S170000, .i32⟩
  | 78 => ⟨S170000, .i1⟩
  | 79 => ⟨S_, .i32⟩
  | 80 => ⟨S170000, .i32⟩
  | 81 => ⟨S170000, .i32⟩
  | 82 => ⟨S170000, .i32⟩
  | 83 => ⟨S170000x1, .i32⟩
  | 84 => ⟨S170000x512, .f32⟩
  | 85 => ⟨S170000x1, .f32⟩
  | 86 => ⟨S170000x512, .f32⟩
  | 87 => ⟨S170000x512, .f32⟩
  | 88 => ⟨S_, .i32⟩
  | 89 => ⟨S170000, .i32⟩
  | 90 => ⟨S170000, .i1⟩
  | 91 => ⟨S_, .i32⟩
  | 92 => ⟨S170000, .i32⟩
  | 93 => ⟨S170000, .i32⟩
  | 94 => ⟨S170000, .i32⟩
  | 95 => ⟨S170000x1, .i32⟩
  | 96 => ⟨S10000x512, .f32⟩
  | 97 => ⟨S1x512, .f32⟩
  | 98 => ⟨S10000x512, .f32⟩
  | 99 => ⟨S10000x512, .f32⟩
  | 100 => ⟨S_, .f32⟩
  | 101 => ⟨S512, .f32⟩
  | 102 => ⟨S_, .f32⟩
  | 103 => ⟨S512, .f32⟩
  | 104 => ⟨S512, .f32⟩
  | 105 => ⟨S_, .i32⟩
  | 106 => ⟨S_, .f32⟩
  | 107 => ⟨S512, .f32⟩
  | 108 => ⟨S1x512, .f32⟩
  | 109 => ⟨S_, .f32⟩
  | 110 => ⟨S1x512, .f32⟩
  | 111 => ⟨S1x512, .f32⟩
  | 112 => ⟨S10000x512, .f32⟩
  | 113 => ⟨S10000x512, .f32⟩
  | 114 => ⟨S10000x512, .f32⟩
  | 115 => ⟨S_, .f32⟩
  | 116 => ⟨S_, .f32⟩
  | 117 => ⟨S_, .f32⟩
  | 118 => ⟨S_, .f32⟩
  | 119 => ⟨S512, .f32⟩
  | 120 => ⟨S512, .f32⟩
  | 121 => ⟨S512, .f32⟩
  | 122 => ⟨S_, .f32⟩
  | 123 => ⟨S_, .i1⟩
  | 124 => ⟨S_, .f32⟩
  | 125 => ⟨S_, .f32⟩
  | 126 => ⟨S512, .f32⟩
  | 127 => ⟨S512, .f32⟩
  | _ => ⟨S10000x256, .f32⟩

abbrev hbmTy0_1 (i : Nat) : BufTy := match i % 128 with
  | 0 => ⟨S1x512, .f32⟩
  | 1 => ⟨S10000x512, .f32⟩
  | 2 => ⟨S10000x512, .f32⟩
  | 3 => ⟨S_, .f32⟩
  | 4 => ⟨S512, .f32⟩
  | 5 => ⟨S512, .f32⟩
  | 6 => ⟨S512, .f32⟩
  | 7 => ⟨S1x512, .f32⟩
  | 8 => ⟨S10000x512, .f32⟩
  | 9 => ⟨S10000x512, .f32⟩
  | 10 => ⟨S1x512, .f32⟩
  | 11 => ⟨S10000x512, .f32⟩
  | 12 => ⟨S10000x512, .f32⟩
  | 13 => ⟨S1x512, .f32⟩
  | 14 => ⟨S10000x512, .f32⟩
  | 15 => ⟨S10000x512, .f32⟩
  | 16 => ⟨S_, .f32⟩
  | 17 => ⟨S10000x512, .f32⟩
  | 18 => ⟨S10000x512, .f32⟩
  | 19 => ⟨S10000, .i32⟩
  | 20 => ⟨S170000, .i32⟩
  | 21 => ⟨S170000, .i32⟩
  | 22 => ⟨S_, .f32⟩
  | 23 => ⟨S10000, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S_, .f32⟩
  | 33 => ⟨S170000, .f32⟩
  | 34 => ⟨S10000, .f32⟩
  | 35 => ⟨S_, .f32⟩
  | 36 => ⟨S10000, .f32⟩
  | 37 => ⟨S10000, .f32⟩
  | 38 => ⟨S10000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S170000, .f32⟩
  | 48 => ⟨S_, .i32⟩
  | 49 => ⟨S170000, .i32⟩
  | 50 => ⟨S170000, .i1⟩
  | 51 => ⟨S_, .i32⟩
  | 52 => ⟨S170000, .i32⟩
  | 53 => ⟨S170000, .i32⟩
  | 54 => ⟨S170000, .i32⟩
  | 55 => ⟨S170000x1, .i32⟩
  | 56 => ⟨S170000, .f32⟩
  | 57 => ⟨S170000, .f32⟩
  | 58 => ⟨S10000x256, .f32⟩
  | 59 => ⟨S_, .f32⟩
  | 60 => ⟨S10000x256, .f32⟩
  | 61 => ⟨S_, .i32⟩
  | 62 => ⟨S170000, .i32⟩
  | 63 => ⟨S170000, .i1⟩
  | 64 => ⟨S_, .i32⟩
  | 65 => ⟨S170000, .i32⟩
  | 66 => ⟨S170000, .i32⟩
  | 67 => ⟨S170000, .i32⟩
  | 68 => ⟨S170000x1, .i32⟩
  | 69 => ⟨S170000x256, .f32⟩
  | 70 => ⟨S170000x1, .f32⟩
  | 71 => ⟨S170000x256, .f32⟩
  | 72 => ⟨S170000x256, .f32⟩
  | 73 => ⟨S_, .i32⟩
  | 74 => ⟨S170000, .i32⟩
  | 75 => ⟨S170000, .i1⟩
  | 76 => ⟨S_, .i32⟩
  | 77 => ⟨S170000, .i32⟩
  | 78 => ⟨S170000, .i32⟩
  | 79 => ⟨S170000, .i32⟩
  | 80 => ⟨S170000x1, .i32⟩
  | 81 => ⟨S10000x256, .f32⟩
  | 82 => ⟨S1x256, .f32⟩
  | 83 => ⟨S10000x256, .f32⟩
  | 84 => ⟨S10000x256, .f32⟩
  | 85 => ⟨S_, .f32⟩
  | 86 => ⟨S256, .f32⟩
  | 87 => ⟨S_, .f32⟩
  | 88 => ⟨S256, .f32⟩
  | 89 => ⟨S256, .f32⟩
  | 90 => ⟨S_, .i32⟩
  | 91 => ⟨S_, .f32⟩
  | 92 => ⟨S256, .f32⟩
  | 93 => ⟨S1x256, .f32⟩
  | 94 => ⟨S_, .f32⟩
  | 95 => ⟨S1x256, .f32⟩
  | 96 => ⟨S1x256, .f32⟩
  | 97 => ⟨S10000x256, .f32⟩
  | 98 => ⟨S10000x256, .f32⟩
  | 99 => ⟨S10000x256, .f32⟩
  | 100 => ⟨S_, .f32⟩
  | 101 => ⟨S_, .f32⟩
  | 102 => ⟨S_, .f32⟩
  | 103 => ⟨S_, .f32⟩
  | 104 => ⟨S256, .f32⟩
  | 105 => ⟨S256, .f32⟩
  | 106 => ⟨S256, .f32⟩
  | 107 => ⟨S_, .f32⟩
  | 108 => ⟨S_, .i1⟩
  | 109 => ⟨S_, .f32⟩
  | 110 => ⟨S_, .f32⟩
  | 111 => ⟨S256, .f32⟩
  | 112 => ⟨S256, .f32⟩
  | 113 => ⟨S1x256, .f32⟩
  | 114 => ⟨S10000x256, .f32⟩
  | 115 => ⟨S10000x256, .f32⟩
  | 116 => ⟨S_, .f32⟩
  | 117 => ⟨S256, .f32⟩
  | 118 => ⟨S256, .f32⟩
  | 119 => ⟨S256, .f32⟩
  | 120 => ⟨S1x256, .f32⟩
  | 121 => ⟨S10000x256, .f32⟩
  | 122 => ⟨S10000x256, .f32⟩
  | 123 => ⟨S1x256, .f32⟩
  | 124 => ⟨S10000x256, .f32⟩
  | 125 => ⟨S10000x256, .f32⟩
  | 126 => ⟨S1x256, .f32⟩
  | 127 => ⟨S10000x256, .f32⟩
  | _ => ⟨S10000x256, .f32⟩

abbrev hbmTy0_2 (i : Nat) : BufTy := match i % 128 with
  | 0 => ⟨S10000x256, .f32⟩
  | 1 => ⟨S_, .f32⟩
  | 2 => ⟨S10000x256, .f32⟩
  | 3 => ⟨S10000x256, .f32⟩
  | 4 => ⟨S_, .f32⟩
  | 5 => ⟨S64x256, .f32⟩
  | 6 => ⟨S10000x1, .i32⟩
  | 7 => ⟨S64x256, .f32⟩
  | 8 => ⟨S_, .f32⟩
  | 9 => ⟨S10000, .f32⟩
  | 10 => ⟨S_, .f32⟩
  | 11 => ⟨S64, .f32⟩
  | 12 => ⟨S10000x1, .i32⟩
  | 13 => ⟨S64, .f32⟩
  | 14 => ⟨S64x1, .f32⟩
  | 15 => ⟨S1x512, .f32⟩
  | 16 => ⟨S1x512, .f32⟩
  | 17 => ⟨S1x512, .f32⟩
  | 18 => ⟨S1x256, .f32⟩
  | 19 => ⟨S1x256, .f32⟩
  | 20 => ⟨S1x256, .f32⟩
  | 21 => ⟨S1x1, .f32⟩
  | 22 => ⟨S64x1, .f32⟩
  | 23 => ⟨S64, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | .local _ .vmem, ⟨0, _⟩ => ⟨S64x256, .f32⟩
  | .local _ .vmem, ⟨1, _⟩ => ⟨S64x1, .f32⟩
  | .local _ .vmem, ⟨2, _⟩ => ⟨S256x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x1, .f32⟩
  | .local _ .vmem, ⟨11, _⟩ => ⟨S1x1, .f32⟩
  | .local _ .vmem, ⟨12, _⟩ => ⟨S64x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_cst : Ref sig .tc := ⟨.hbm, 31, rfl⟩
abbrev main_call0_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_3 : Ref sig .tc := ⟨.hbm, 54, rfl⟩
abbrev main_v24 : Ref sig .tc := ⟨.hbm, 55, rfl⟩
abbrev main_v25 : Ref sig .tc := ⟨.hbm, 56, rfl⟩
abbrev main_c_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_c_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_c_8 : Ref sig .tc := ⟨.hbm, 76, rfl⟩
abbrev main_v41 : Ref sig .tc := ⟨.hbm, 77, rfl⟩
abbrev main_v42 : Ref sig .tc := ⟨.hbm, 78, rfl⟩
abbrev main_c_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_v52 : Ref sig .tc := ⟨.hbm, 90, rfl⟩
abbrev main_c_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_12 : Ref sig .tc := ⟨.hbm, 100, rfl⟩
abbrev main_v61 : Ref sig .tc := ⟨.hbm, 101, rfl⟩
abbrev main_cst_13 : Ref sig .tc := ⟨.hbm, 102, rfl⟩
abbrev main_v62 : Ref sig .tc := ⟨.hbm, 103, rfl⟩
abbrev main_v63 : Ref sig .tc := ⟨.hbm, 104, rfl⟩
abbrev main_c_14 : Ref sig .tc := ⟨.hbm, 105, rfl⟩
abbrev main_call1_cst : Ref sig .tc := ⟨.hbm, 106, rfl⟩
abbrev main_call1_v0 : Ref sig .tc := ⟨.hbm, 107, rfl⟩
abbrev main_call1_v1 : Ref sig .tc := ⟨.hbm, 108, rfl⟩
abbrev main_call1_cst_0 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_v7 : Ref sig .tc := ⟨.hbm, 115, rfl⟩
abbrev main_call1_cst_1 : Ref sig .tc := ⟨.hbm, 116, rfl⟩
abbrev main_call1_v8 : Ref sig .tc := ⟨.hbm, 117, rfl⟩
abbrev main_call1_cst_2 : Ref sig .tc := ⟨.hbm, 118, rfl⟩
abbrev main_call1_v9 : Ref sig .tc := ⟨.hbm, 119, rfl⟩
abbrev main_call1_v10 : Ref sig .tc := ⟨.hbm, 120, rfl⟩
abbrev main_call1_v11 : Ref sig .tc := ⟨.hbm, 121, rfl⟩
abbrev main_call1_cst_3 : Ref sig .tc := ⟨.hbm, 122, rfl⟩
abbrev main_call1_v12 : Ref sig .tc := ⟨.hbm, 123, rfl⟩
abbrev main_call1_cst_4 : Ref sig .tc := ⟨.hbm, 124, rfl⟩
abbrev main_call1_call0_v0 : Ref sig .tc := ⟨.hbm, 125, rfl⟩
abbrev main_call1_call0_v1 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_15 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_call2_cst : Ref sig .tc := ⟨.hbm, 144, rfl⟩
abbrev main_call2_v0 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_16 : Ref sig .tc := ⟨.hbm, 150, rfl⟩
abbrev main_v84 : Ref sig .tc := ⟨.hbm, 151, rfl⟩
abbrev main_c_17 : Ref sig .tc := ⟨.hbm, 152, rfl⟩
abbrev main_v85 : Ref sig .tc := ⟨.hbm, 153, rfl⟩
abbrev main_v86 : Ref sig .tc := ⟨.hbm, 154, rfl⟩
abbrev main_c_18 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_19 : Ref sig .tc := ⟨.hbm, 160, rfl⟩
abbrev main_v91 : Ref sig .tc := ⟨.hbm, 161, rfl⟩
abbrev main_v92 : Ref sig .tc := ⟨.hbm, 162, rfl⟩
abbrev main_cst_20 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_c_21 : Ref sig .tc := ⟨.hbm, 167, rfl⟩
abbrev main_v96 : Ref sig .tc := ⟨.hbm, 168, rfl⟩
abbrev main_v97 : Ref sig .tc := ⟨.hbm, 169, rfl⟩
abbrev main_c_22 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_c_23 : Ref sig .tc := ⟨.hbm, 176, rfl⟩
abbrev main_v103 : Ref sig .tc := ⟨.hbm, 177, rfl⟩
abbrev main_v104 : Ref sig .tc := ⟨.hbm, 178, rfl⟩
abbrev main_c_24 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_25 : Ref sig .tc := ⟨.hbm, 187, rfl⟩
abbrev main_v112 : Ref sig .tc := ⟨.hbm, 188, rfl⟩
abbrev main_c_26 : Ref sig .tc := ⟨.hbm, 189, rfl⟩
abbrev main_v113 : Ref sig .tc := ⟨.hbm, 190, rfl⟩
abbrev main_v114 : Ref sig .tc := ⟨.hbm, 191, rfl⟩
abbrev main_c_27 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_c_28 : Ref sig .tc := ⟨.hbm, 201, rfl⟩
abbrev main_v123 : Ref sig .tc := ⟨.hbm, 202, rfl⟩
abbrev main_v124 : Ref sig .tc := ⟨.hbm, 203, rfl⟩
abbrev main_c_29 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_cst_30 : Ref sig .tc := ⟨.hbm, 213, rfl⟩
abbrev main_v133 : Ref sig .tc := ⟨.hbm, 214, rfl⟩
abbrev main_cst_31 : Ref sig .tc := ⟨.hbm, 215, rfl⟩
abbrev main_v134 : Ref sig .tc := ⟨.hbm, 216, rfl⟩
abbrev main_v135 : Ref sig .tc := ⟨.hbm, 217, rfl⟩
abbrev main_c_32 : Ref sig .tc := ⟨.hbm, 218, rfl⟩
abbrev main_call3_cst : Ref sig .tc := ⟨.hbm, 219, rfl⟩
abbrev main_call3_v0 : Ref sig .tc := ⟨.hbm, 220, rfl⟩
abbrev main_call3_v1 : Ref sig .tc := ⟨.hbm, 221, rfl⟩
abbrev main_call3_cst_0 : Ref sig .tc := ⟨.hbm, 222, rfl⟩
abbrev main_call3_v2 : Ref sig .tc := ⟨.hbm, 223, rfl⟩
abbrev main_call3_v3 : Ref sig .tc := ⟨.hbm, 224, rfl⟩
abbrev main_call3_v4 : Ref sig .tc := ⟨.hbm, 225, rfl⟩
abbrev main_call3_v5 : Ref sig .tc := ⟨.hbm, 226, rfl⟩
abbrev main_call3_v6 : Ref sig .tc := ⟨.hbm, 227, rfl⟩
abbrev main_call3_v7 : Ref sig .tc := ⟨.hbm, 228, rfl⟩
abbrev main_call3_cst_1 : Ref sig .tc := ⟨.hbm, 229, rfl⟩
abbrev main_call3_v8 : Ref sig .tc := ⟨.hbm, 230, rfl⟩
abbrev main_call3_cst_2 : Ref sig .tc := ⟨.hbm, 231, rfl⟩
abbrev main_call3_v9 : Ref sig .tc := ⟨.hbm, 232, rfl⟩
abbrev main_call3_v10 : Ref sig .tc := ⟨.hbm, 233, rfl⟩
abbrev main_call3_v11 : Ref sig .tc := ⟨.hbm, 234, rfl⟩
abbrev main_call3_cst_3 : Ref sig .tc := ⟨.hbm, 235, rfl⟩
abbrev main_call3_v12 : Ref sig .tc := ⟨.hbm, 236, rfl⟩
abbrev main_call3_cst_4 : Ref sig .tc := ⟨.hbm, 237, rfl⟩
abbrev main_call3_call0_v0 : Ref sig .tc := ⟨.hbm, 238, rfl⟩
abbrev main_call3_call0_v1 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_cst_33 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_call4_cst : Ref sig .tc := ⟨.hbm, 257, rfl⟩
abbrev main_call4_v0 : Ref sig .tc := ⟨.hbm, 258, rfl⟩
abbrev main_v152 : Ref sig .tc := ⟨.hbm, 259, rfl⟩
abbrev main_cst_34 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_cst_35 : Ref sig .tc := ⟨.hbm, 264, rfl⟩
abbrev main_v156 : Ref sig .tc := ⟨.hbm, 265, rfl⟩
abbrev main_cst_36 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S10000 : Shape := ⟨1, ![10000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x160000 : Shape := ⟨2, ![1, 160000]⟩
abbrev S160000 : Shape := ⟨1, ![160000]⟩
abbrev S10000x512 : Shape := ⟨2, ![10000, 512]⟩
abbrev S1x512 : Shape := ⟨2, ![1, 512]⟩
abbrev S_ : Shape := ⟨0, ![]⟩
abbrev S170000 : Shape := ⟨1, ![170000]⟩
abbrev S170000x1 : Shape := ⟨2, ![170000, 1]⟩
abbrev S170000x512 : Shape := ⟨2, ![170000, 512]⟩
abbrev S170000x256 : Shape := ⟨2, ![170000, 256]⟩
abbrev S1x256 : Shape := ⟨2, ![1, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S64x512 : Shape := ⟨2, ![64, 512]⟩
abbrev S1x1 : Shape := ⟨2, ![1, 1]⟩

abbrev nBuf : Space → Nat
  | .hbm => 383
  | .vmem => 0
  | .smem => 0
  | _ => 0

abbrev hbmTy0_0 (i : Nat) : BufTy := match i % 128 with
  | 0 => ⟨S10000x256, .f32⟩
  | 1 => ⟨S2x160000, .i32⟩
  | 2 => ⟨S10000, .i32⟩
  | 3 => ⟨S256x512, .f32⟩
  | 4 => ⟨S512, .f32⟩
  | 5 => ⟨S512x512, .f32⟩
  | 6 => ⟨S512, .f32⟩
  | 7 => ⟨S512, .f32⟩
  | 8 => ⟨S512, .f32⟩
  | 9 => ⟨S512x256, .f32⟩
  | 10 => ⟨S256, .f32⟩
  | 11 => ⟨S256, .f32⟩
  | 12 => ⟨S256, .f32⟩
  | 13 => ⟨S256x512, .f32⟩
  | 14 => ⟨S512, .f32⟩
  | 15 => ⟨S512, .f32⟩
  | 16 => ⟨S512, .f32⟩
  | 17 => ⟨S512x256, .f32⟩
  | 18 => ⟨S256, .f32⟩
  | 19 => ⟨S256, .f32⟩
  | 20 => ⟨S256, .f32⟩
  | 21 => ⟨S256x1, .f32⟩
  | 22 => ⟨S1, .f32⟩
  | 23 => ⟨S1x160000, .i32⟩
  | 24 => ⟨S160000, .i32⟩
  | 25 => ⟨S1x160000, .i32⟩
  | 26 => ⟨S160000, .i32⟩
  | 27 => ⟨S10000x512, .f32⟩
  | 28 => ⟨S1x512, .f32⟩
  | 29 => ⟨S10000x512, .f32⟩
  | 30 => ⟨S10000x512, .f32⟩
  | 31 => ⟨S_, .f32⟩
  | 32 => ⟨S10000x512, .f32⟩
  | 33 => ⟨S10000x512, .f32⟩
  | 34 => ⟨S10000, .i32⟩
  | 35 => ⟨S170000, .i32⟩
  | 36 => ⟨S170000, .i32⟩
  | 37 => ⟨S_, .f32⟩
  | 38 => ⟨S10000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S_, .f32⟩
  | 48 => ⟨S170000, .f32⟩
  | 49 => ⟨S10000, .f32⟩
  | 50 => ⟨S_, .f32⟩
  | 51 => ⟨S10000, .f32⟩
  | 52 => ⟨S10000, .f32⟩
  | 53 => ⟨S10000, .f32⟩
  | 54 => ⟨S_, .i32⟩
  | 55 => ⟨S170000, .i32⟩
  | 56 => ⟨S170000, .i1⟩
  | 57 => ⟨S_, .i32⟩
  | 58 => ⟨S170000, .i32⟩
  | 59 => ⟨S170000, .i32⟩
  | 60 => ⟨S170000, .i32⟩
  | 61 => ⟨S170000x1, .i32⟩
  | 62 => ⟨S170000, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S170000, .f32⟩
  | 72 => ⟨S170000, .f32⟩
  | 73 => ⟨S10000x512, .f32⟩
  | 74 => ⟨S_, .f32⟩
  | 75 => ⟨S10000x512, .f32⟩
  | 76 => ⟨S_, .i32⟩
  | 77 => ⟨S170000, .i32⟩
  | 78 => ⟨S170000, .i1⟩
  | 79 => ⟨S_, .i32⟩
  | 80 => ⟨S170000, .i32⟩
  | 81 => ⟨S170000, .i32⟩
  | 82 => ⟨S170000, .i32⟩
  | 83 => ⟨S170000x1, .i32⟩
  | 84 => ⟨S170000x512, .f32⟩
  | 85 => ⟨S170000x1, .f32⟩
  | 86 => ⟨S170000x512, .f32⟩
  | 87 => ⟨S170000x512, .f32⟩
  | 88 => ⟨S_, .i32⟩
  | 89 => ⟨S170000, .i32⟩
  | 90 => ⟨S170000, .i1⟩
  | 91 => ⟨S_, .i32⟩
  | 92 => ⟨S170000, .i32⟩
  | 93 => ⟨S170000, .i32⟩
  | 94 => ⟨S170000, .i32⟩
  | 95 => ⟨S170000x1, .i32⟩
  | 96 => ⟨S10000x512, .f32⟩
  | 97 => ⟨S1x512, .f32⟩
  | 98 => ⟨S10000x512, .f32⟩
  | 99 => ⟨S10000x512, .f32⟩
  | 100 => ⟨S_, .f32⟩
  | 101 => ⟨S512, .f32⟩
  | 102 => ⟨S_, .f32⟩
  | 103 => ⟨S512, .f32⟩
  | 104 => ⟨S512, .f32⟩
  | 105 => ⟨S_, .i32⟩
  | 106 => ⟨S_, .f32⟩
  | 107 => ⟨S512, .f32⟩
  | 108 => ⟨S1x512, .f32⟩
  | 109 => ⟨S_, .f32⟩
  | 110 => ⟨S1x512, .f32⟩
  | 111 => ⟨S1x512, .f32⟩
  | 112 => ⟨S10000x512, .f32⟩
  | 113 => ⟨S10000x512, .f32⟩
  | 114 => ⟨S10000x512, .f32⟩
  | 115 => ⟨S_, .f32⟩
  | 116 => ⟨S_, .f32⟩
  | 117 => ⟨S_, .f32⟩
  | 118 => ⟨S_, .f32⟩
  | 119 => ⟨S512, .f32⟩
  | 120 => ⟨S512, .f32⟩
  | 121 => ⟨S512, .f32⟩
  | 122 => ⟨S_, .f32⟩
  | 123 => ⟨S_, .i1⟩
  | 124 => ⟨S_, .f32⟩
  | 125 => ⟨S_, .f32⟩
  | 126 => ⟨S512, .f32⟩
  | 127 => ⟨S512, .f32⟩
  | _ => ⟨S10000x256, .f32⟩

abbrev hbmTy0_1 (i : Nat) : BufTy := match i % 128 with
  | 0 => ⟨S1x512, .f32⟩
  | 1 => ⟨S10000x512, .f32⟩
  | 2 => ⟨S10000x512, .f32⟩
  | 3 => ⟨S_, .f32⟩
  | 4 => ⟨S512, .f32⟩
  | 5 => ⟨S512, .f32⟩
  | 6 => ⟨S512, .f32⟩
  | 7 => ⟨S1x512, .f32⟩
  | 8 => ⟨S10000x512, .f32⟩
  | 9 => ⟨S10000x512, .f32⟩
  | 10 => ⟨S1x512, .f32⟩
  | 11 => ⟨S10000x512, .f32⟩
  | 12 => ⟨S10000x512, .f32⟩
  | 13 => ⟨S1x512, .f32⟩
  | 14 => ⟨S10000x512, .f32⟩
  | 15 => ⟨S10000x512, .f32⟩
  | 16 => ⟨S_, .f32⟩
  | 17 => ⟨S10000x512, .f32⟩
  | 18 => ⟨S10000x512, .f32⟩
  | 19 => ⟨S10000, .i32⟩
  | 20 => ⟨S170000, .i32⟩
  | 21 => ⟨S170000, .i32⟩
  | 22 => ⟨S_, .f32⟩
  | 23 => ⟨S10000, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S_, .f32⟩
  | 33 => ⟨S170000, .f32⟩
  | 34 => ⟨S10000, .f32⟩
  | 35 => ⟨S_, .f32⟩
  | 36 => ⟨S10000, .f32⟩
  | 37 => ⟨S10000, .f32⟩
  | 38 => ⟨S10000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S170000, .f32⟩
  | 48 => ⟨S_, .i32⟩
  | 49 => ⟨S170000, .i32⟩
  | 50 => ⟨S170000, .i1⟩
  | 51 => ⟨S_, .i32⟩
  | 52 => ⟨S170000, .i32⟩
  | 53 => ⟨S170000, .i32⟩
  | 54 => ⟨S170000, .i32⟩
  | 55 => ⟨S170000x1, .i32⟩
  | 56 => ⟨S170000, .f32⟩
  | 57 => ⟨S170000, .f32⟩
  | 58 => ⟨S10000x256, .f32⟩
  | 59 => ⟨S_, .f32⟩
  | 60 => ⟨S10000x256, .f32⟩
  | 61 => ⟨S_, .i32⟩
  | 62 => ⟨S170000, .i32⟩
  | 63 => ⟨S170000, .i1⟩
  | 64 => ⟨S_, .i32⟩
  | 65 => ⟨S170000, .i32⟩
  | 66 => ⟨S170000, .i32⟩
  | 67 => ⟨S170000, .i32⟩
  | 68 => ⟨S170000x1, .i32⟩
  | 69 => ⟨S170000x256, .f32⟩
  | 70 => ⟨S170000x1, .f32⟩
  | 71 => ⟨S170000x256, .f32⟩
  | 72 => ⟨S170000x256, .f32⟩
  | 73 => ⟨S_, .i32⟩
  | 74 => ⟨S170000, .i32⟩
  | 75 => ⟨S170000, .i1⟩
  | 76 => ⟨S_, .i32⟩
  | 77 => ⟨S170000, .i32⟩
  | 78 => ⟨S170000, .i32⟩
  | 79 => ⟨S170000, .i32⟩
  | 80 => ⟨S170000x1, .i32⟩
  | 81 => ⟨S10000x256, .f32⟩
  | 82 => ⟨S1x256, .f32⟩
  | 83 => ⟨S10000x256, .f32⟩
  | 84 => ⟨S10000x256, .f32⟩
  | 85 => ⟨S_, .f32⟩
  | 86 => ⟨S256, .f32⟩
  | 87 => ⟨S_, .f32⟩
  | 88 => ⟨S256, .f32⟩
  | 89 => ⟨S256, .f32⟩
  | 90 => ⟨S_, .i32⟩
  | 91 => ⟨S_, .f32⟩
  | 92 => ⟨S256, .f32⟩
  | 93 => ⟨S1x256, .f32⟩
  | 94 => ⟨S_, .f32⟩
  | 95 => ⟨S1x256, .f32⟩
  | 96 => ⟨S1x256, .f32⟩
  | 97 => ⟨S10000x256, .f32⟩
  | 98 => ⟨S10000x256, .f32⟩
  | 99 => ⟨S10000x256, .f32⟩
  | 100 => ⟨S_, .f32⟩
  | 101 => ⟨S_, .f32⟩
  | 102 => ⟨S_, .f32⟩
  | 103 => ⟨S_, .f32⟩
  | 104 => ⟨S256, .f32⟩
  | 105 => ⟨S256, .f32⟩
  | 106 => ⟨S256, .f32⟩
  | 107 => ⟨S_, .f32⟩
  | 108 => ⟨S_, .i1⟩
  | 109 => ⟨S_, .f32⟩
  | 110 => ⟨S_, .f32⟩
  | 111 => ⟨S256, .f32⟩
  | 112 => ⟨S256, .f32⟩
  | 113 => ⟨S1x256, .f32⟩
  | 114 => ⟨S10000x256, .f32⟩
  | 115 => ⟨S10000x256, .f32⟩
  | 116 => ⟨S_, .f32⟩
  | 117 => ⟨S256, .f32⟩
  | 118 => ⟨S256, .f32⟩
  | 119 => ⟨S256, .f32⟩
  | 120 => ⟨S1x256, .f32⟩
  | 121 => ⟨S10000x256, .f32⟩
  | 122 => ⟨S10000x256, .f32⟩
  | 123 => ⟨S1x256, .f32⟩
  | 124 => ⟨S10000x256, .f32⟩
  | 125 => ⟨S10000x256, .f32⟩
  | 126 => ⟨S1x256, .f32⟩
  | 127 => ⟨S10000x256, .f32⟩
  | _ => ⟨S10000x256, .f32⟩

abbrev hbmTy0_2 (i : Nat) : BufTy := match i % 128 with
  | 0 => ⟨S10000x256, .f32⟩
  | 1 => ⟨S_, .f32⟩
  | 2 => ⟨S10000x256, .f32⟩
  | 3 => ⟨S10000x256, .f32⟩
  | 4 => ⟨S_, .f32⟩
  | 5 => ⟨S64x256, .f32⟩
  | 6 => ⟨S10000x1, .i32⟩
  | 7 => ⟨S64x256, .f32⟩
  | 8 => ⟨S_, .f32⟩
  | 9 => ⟨S10000, .f32⟩
  | 10 => ⟨S_, .f32⟩
  | 11 => ⟨S64, .f32⟩
  | 12 => ⟨S10000x1, .i32⟩
  | 13 => ⟨S64, .f32⟩
  | 14 => ⟨S_, .f32⟩
  | 15 => ⟨S64, .f32⟩
  | 16 => ⟨S64, .f32⟩
  | 17 => ⟨S64x1, .f32⟩
  | 18 => ⟨S64x256, .f32⟩
  | 19 => ⟨S64x256, .f32⟩
  | 20 => ⟨S64x512, .f32⟩
  | 21 => ⟨S1x512, .f32⟩
  | 22 => ⟨S64x512, .f32⟩
  | 23 => ⟨S64x512, .f32⟩
  | 24 => ⟨S_, .f32⟩
  | 25 => ⟨S512, .f32⟩
  | 26 => ⟨S_, .f32⟩
  | 27 => ⟨S512, .f32⟩
  | 28 => ⟨S512, .f32⟩
  | 29 => ⟨S_, .i32⟩
  | 30 => ⟨S_, .f32⟩
  | 31 => ⟨S512, .f32⟩
  | 32 => ⟨S1x512, .f32⟩
  | 33 => ⟨S_, .f32⟩
  | 34 => ⟨S1x512, .f32⟩
  | 35 => ⟨S1x512, .f32⟩
  | 36 => ⟨S64x512, .f32⟩
  | 37 => ⟨S64x512, .f32⟩
  | 38 => ⟨S64x512, .f32⟩
  | 39 => ⟨S_, .f32⟩
  | 40 => ⟨S_, .f32⟩
  | 41 => ⟨S_, .f32⟩
  | 42 => ⟨S_, .f32⟩
  | 43 => ⟨S512, .f32⟩
  | 44 => ⟨S512, .f32⟩
  | 45 => ⟨S512, .f32⟩
  | 46 => ⟨S_, .f32⟩
  | 47 => ⟨S_, .i1⟩
  | 48 => ⟨S_, .f32⟩
  | 49 => ⟨S_, .f32⟩
  | 50 => ⟨S512, .f32⟩
  | 51 => ⟨S512, .f32⟩
  | 52 => ⟨S1x512, .f32⟩
  | 53 => ⟨S64x512, .f32⟩
  | 54 => ⟨S64x512, .f32⟩
  | 55 => ⟨S_, .f32⟩
  | 56 => ⟨S512, .f32⟩
  | 57 => ⟨S512, .f32⟩
  | 58 => ⟨S512, .f32⟩
  | 59 => ⟨S1x512, .f32⟩
  | 60 => ⟨S64x512, .f32⟩
  | 61 => ⟨S64x512, .f32⟩
  | 62 => ⟨S1x512, .f32⟩
  | 63 => ⟨S64x512, .f32⟩
  | 64 => ⟨S64x512, .f32⟩
  | 65 => ⟨S1x512, .f32⟩
  | 66 => ⟨S64x512, .f32⟩
  | 67 => ⟨S64x512, .f32⟩
  | 68 => ⟨S_, .f32⟩
  | 69 => ⟨S64x512, .f32⟩
  | 70 => ⟨S64x512, .f32⟩
  | 71 => ⟨S64x256, .f32⟩
  | 72 => ⟨S1x256, .f32⟩
  | 73 => ⟨S64x256, .f32⟩
  | 74 => ⟨S64x256, .f32⟩
  | 75 => ⟨S_, .f32⟩
  | 76 => ⟨S256, .f32⟩
  | 77 => ⟨S_, .f32⟩
  | 78 => ⟨S256, .f32⟩
  | 79 => ⟨S256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S64x256, .f32⟩
  | 88 => ⟨S64x256, .f32⟩
  | 89 => ⟨S64x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S64x256, .f32⟩
  | 105 => ⟨S64x256, .f32⟩
  | 106 => ⟨S_, .f32⟩
  | 107 => ⟨S256, .f32⟩
  | 108 => ⟨S256, .f32⟩
  | 109 => ⟨S256, .f32⟩
  | 110 => ⟨S1x256, .f32⟩
  | 111 => ⟨S64x256, .f32⟩
  | 112 => ⟨S64x256, .f32⟩
  | 113 => ⟨S1x256, .f32⟩
  | 114 => ⟨S64x256, .f32⟩
  | 115 => ⟨S64x256, .f32⟩
  | 116 => ⟨S1x256, .f32⟩
  | 117 => ⟨S64x256, .f32⟩
  | 118 => ⟨S64x256, .f32⟩
  | 119 => ⟨S_, .f32⟩
  | 120 => ⟨S64x256, .f32⟩
  | 121 => ⟨S64x256, .f32⟩
  | 122 => ⟨S64x1, .f32⟩
  | 123 => ⟨S1x1, .f32⟩
  | 124 => ⟨S64x1, .f32⟩
  | 125 => ⟨S64x1, .f32⟩
  | 126 => ⟨S64, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_cst : Ref sig .tc := ⟨.hbm, 31, rfl⟩
abbrev main_call0_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_3 : Ref sig .tc := ⟨.hbm, 54, rfl⟩
abbrev main_v24 : Ref sig .tc := ⟨.hbm, 55, rfl⟩
abbrev main_v25 : Ref sig .tc := ⟨.hbm, 56, rfl⟩
abbrev main_c_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_c_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_c_8 : Ref sig .tc := ⟨.hbm, 76, rfl⟩
abbrev main_v41 : Ref sig .tc := ⟨.hbm, 77, rfl⟩
abbrev main_v42 : Ref sig .tc := ⟨.hbm, 78, rfl⟩
abbrev main_c_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_v52 : Ref sig .tc := ⟨.hbm, 90, rfl⟩
abbrev main_c_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_12 : Ref sig .tc := ⟨.hbm, 100, rfl⟩
abbrev main_v61 : Ref sig .tc := ⟨.hbm, 101, rfl⟩
abbrev main_cst_13 : Ref sig .tc := ⟨.hbm, 102, rfl⟩
abbrev main_v62 : Ref sig .tc := ⟨.hbm, 103, rfl⟩
abbrev main_v63 : Ref sig .tc := ⟨.hbm, 104, rfl⟩
abbrev main_c_14 : Ref sig .tc := ⟨.hbm, 105, rfl⟩
abbrev main_call1_cst : Ref sig .tc := ⟨.hbm, 106, rfl⟩
abbrev main_call1_v0 : Ref sig .tc := ⟨.hbm, 107, rfl⟩
abbrev main_call1_v1 : Ref sig .tc := ⟨.hbm, 108, rfl⟩
abbrev main_call1_cst_0 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_v7 : Ref sig .tc := ⟨.hbm, 115, rfl⟩
abbrev main_call1_cst_1 : Ref sig .tc := ⟨.hbm, 116, rfl⟩
abbrev main_call1_v8 : Ref sig .tc := ⟨.hbm, 117, rfl⟩
abbrev main_call1_cst_2 : Ref sig .tc := ⟨.hbm, 118, rfl⟩
abbrev main_call1_v9 : Ref sig .tc := ⟨.hbm, 119, rfl⟩
abbrev main_call1_v10 : Ref sig .tc := ⟨.hbm, 120, rfl⟩
abbrev main_call1_v11 : Ref sig .tc := ⟨.hbm, 121, rfl⟩
abbrev main_call1_cst_3 : Ref sig .tc := ⟨.hbm, 122, rfl⟩
abbrev main_call1_v12 : Ref sig .tc := ⟨.hbm, 123, rfl⟩
abbrev main_call1_cst_4 : Ref sig .tc := ⟨.hbm, 124, rfl⟩
abbrev main_call1_call0_v0 : Ref sig .tc := ⟨.hbm, 125, rfl⟩
abbrev main_call1_call0_v1 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_15 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_call2_cst : Ref sig .tc := ⟨.hbm, 144, rfl⟩
abbrev main_call2_v0 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_16 : Ref sig .tc := ⟨.hbm, 150, rfl⟩
abbrev main_v84 : Ref sig .tc := ⟨.hbm, 151, rfl⟩
abbrev main_c_17 : Ref sig .tc := ⟨.hbm, 152, rfl⟩
abbrev main_v85 : Ref sig .tc := ⟨.hbm, 153, rfl⟩
abbrev main_v86 : Ref sig .tc := ⟨.hbm, 154, rfl⟩
abbrev main_c_18 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_19 : Ref sig .tc := ⟨.hbm, 160, rfl⟩
abbrev main_v91 : Ref sig .tc := ⟨.hbm, 161, rfl⟩
abbrev main_v92 : Ref sig .tc := ⟨.hbm, 162, rfl⟩
abbrev main_cst_20 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_c_21 : Ref sig .tc := ⟨.hbm, 167, rfl⟩
abbrev main_v96 : Ref sig .tc := ⟨.hbm, 168, rfl⟩
abbrev main_v97 : Ref sig .tc := ⟨.hbm, 169, rfl⟩
abbrev main_c_22 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_c_23 : Ref sig .tc := ⟨.hbm, 176, rfl⟩
abbrev main_v103 : Ref sig .tc := ⟨.hbm, 177, rfl⟩
abbrev main_v104 : Ref sig .tc := ⟨.hbm, 178, rfl⟩
abbrev main_c_24 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_25 : Ref sig .tc := ⟨.hbm, 187, rfl⟩
abbrev main_v112 : Ref sig .tc := ⟨.hbm, 188, rfl⟩
abbrev main_c_26 : Ref sig .tc := ⟨.hbm, 189, rfl⟩
abbrev main_v113 : Ref sig .tc := ⟨.hbm, 190, rfl⟩
abbrev main_v114 : Ref sig .tc := ⟨.hbm, 191, rfl⟩
abbrev main_c_27 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_c_28 : Ref sig .tc := ⟨.hbm, 201, rfl⟩
abbrev main_v123 : Ref sig .tc := ⟨.hbm, 202, rfl⟩
abbrev main_v124 : Ref sig .tc := ⟨.hbm, 203, rfl⟩
abbrev main_c_29 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_cst_30 : Ref sig .tc := ⟨.hbm, 213, rfl⟩
abbrev main_v133 : Ref sig .tc := ⟨.hbm, 214, rfl⟩
abbrev main_cst_31 : Ref sig .tc := ⟨.hbm, 215, rfl⟩
abbrev main_v134 : Ref sig .tc := ⟨.hbm, 216, rfl⟩
abbrev main_v135 : Ref sig .tc := ⟨.hbm, 217, rfl⟩
abbrev main_c_32 : Ref sig .tc := ⟨.hbm, 218, rfl⟩
abbrev main_call3_cst : Ref sig .tc := ⟨.hbm, 219, rfl⟩
abbrev main_call3_v0 : Ref sig .tc := ⟨.hbm, 220, rfl⟩
abbrev main_call3_v1 : Ref sig .tc := ⟨.hbm, 221, rfl⟩
abbrev main_call3_cst_0 : Ref sig .tc := ⟨.hbm, 222, rfl⟩
abbrev main_call3_v2 : Ref sig .tc := ⟨.hbm, 223, rfl⟩
abbrev main_call3_v3 : Ref sig .tc := ⟨.hbm, 224, rfl⟩
abbrev main_call3_v4 : Ref sig .tc := ⟨.hbm, 225, rfl⟩
abbrev main_call3_v5 : Ref sig .tc := ⟨.hbm, 226, rfl⟩
abbrev main_call3_v6 : Ref sig .tc := ⟨.hbm, 227, rfl⟩
abbrev main_call3_v7 : Ref sig .tc := ⟨.hbm, 228, rfl⟩
abbrev main_call3_cst_1 : Ref sig .tc := ⟨.hbm, 229, rfl⟩
abbrev main_call3_v8 : Ref sig .tc := ⟨.hbm, 230, rfl⟩
abbrev main_call3_cst_2 : Ref sig .tc := ⟨.hbm, 231, rfl⟩
abbrev main_call3_v9 : Ref sig .tc := ⟨.hbm, 232, rfl⟩
abbrev main_call3_v10 : Ref sig .tc := ⟨.hbm, 233, rfl⟩
abbrev main_call3_v11 : Ref sig .tc := ⟨.hbm, 234, rfl⟩
abbrev main_call3_cst_3 : Ref sig .tc := ⟨.hbm, 235, rfl⟩
abbrev main_call3_v12 : Ref sig .tc := ⟨.hbm, 236, rfl⟩
abbrev main_call3_cst_4 : Ref sig .tc := ⟨.hbm, 237, rfl⟩
abbrev main_call3_call0_v0 : Ref sig .tc := ⟨.hbm, 238, rfl⟩
abbrev main_call3_call0_v1 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_cst_33 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_call4_cst : Ref sig .tc := ⟨.hbm, 257, rfl⟩
abbrev main_call4_v0 : Ref sig .tc := ⟨.hbm, 258, rfl⟩
abbrev main_v152 : Ref sig .tc := ⟨.hbm, 259, rfl⟩
abbrev main_cst_34 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_cst_35 : Ref sig .tc := ⟨.hbm, 264, rfl⟩
abbrev main_v156 : Ref sig .tc := ⟨.hbm, 265, rfl⟩
abbrev main_cst_36 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_cst_37 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_cst_38 : Ref sig .tc := ⟨.hbm, 280, rfl⟩
abbrev main_v169 : Ref sig .tc := ⟨.hbm, 281, rfl⟩
abbrev main_cst_39 : Ref sig .tc := ⟨.hbm, 282, rfl⟩
abbrev main_v170 : Ref sig .tc := ⟨.hbm, 283, rfl⟩
abbrev main_v171 : Ref sig .tc := ⟨.hbm, 284, rfl⟩
abbrev main_c_40 : Ref sig .tc := ⟨.hbm, 285, rfl⟩
abbrev main_call5_cst : Ref sig .tc := ⟨.hbm, 286, rfl⟩
abbrev main_call5_v0 : Ref sig .tc := ⟨.hbm, 287, rfl⟩
abbrev main_call5_v1 : Ref sig .tc := ⟨.hbm, 288, rfl⟩
abbrev main_call5_cst_0 : Ref sig .tc := ⟨.hbm, 289, rfl⟩
abbrev main_call5_v2 : Ref sig .tc := ⟨.hbm, 290, rfl⟩
abbrev main_call5_v3 : Ref sig .tc := ⟨.hbm, 291, rfl⟩
abbrev main_call5_v4 : Ref sig .tc := ⟨.hbm, 292, rfl⟩
abbrev main_call5_v5 : Ref sig .tc := ⟨.hbm, 293, rfl⟩
abbrev main_call5_v6 : Ref sig .tc := ⟨.hbm, 294, rfl⟩
abbrev main_call5_v7 : Ref sig .tc := ⟨.hbm, 295, rfl⟩
abbrev main_call5_cst_1 : Ref sig .tc := ⟨.hbm, 296, rfl⟩
abbrev main_call5_v8 : Ref sig .tc := ⟨.hbm, 297, rfl⟩
abbrev main_call5_cst_2 : Ref sig .tc := ⟨.hbm, 298, rfl⟩
abbrev main_call5_v9 : Ref sig .tc := ⟨.hbm, 299, rfl⟩
abbrev main_call5_v10 : Ref sig .tc := ⟨.hbm, 300, rfl⟩
abbrev main_call5_v11 : Ref sig .tc := ⟨.hbm, 301, rfl⟩
abbrev main_call5_cst_3 : Ref sig .tc := ⟨.hbm, 302, rfl⟩
abbrev main_call5_v12 : Ref sig .tc := ⟨.hbm, 303, rfl⟩
abbrev main_call5_cst_4 : Ref sig .tc := ⟨.hbm, 304, rfl⟩
abbrev main_call5_call0_v0 : Ref sig .tc := ⟨.hbm, 305, rfl⟩
abbrev main_call5_call0_v1 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_cst_41 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_v180 : Ref sig .tc := ⟨.hbm, 316, rfl⟩
abbrev main_v181 : Ref sig .tc := ⟨.hbm, 317, rfl⟩
abbrev main_v182 : Ref sig .tc := ⟨.hbm, 318, rfl⟩
abbrev main_v183 : Ref sig .tc := ⟨.hbm, 319, rfl⟩
abbrev main_v184 : Ref sig .tc := ⟨.hbm, 320, rfl⟩
abbrev main_v185 : Ref sig .tc := ⟨.hbm, 321, rfl⟩
abbrev main_v186 : Ref sig .tc := ⟨.hbm, 322, rfl⟩
abbrev main_v187 : Ref sig .tc := ⟨.hbm, 323, rfl⟩
abbrev main_call6_cst : Ref sig .tc := ⟨.hbm, 324, rfl⟩
abbrev main_call6_v0 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_v192 : Ref sig .tc := ⟨.hbm, 330, rfl⟩
abbrev main_cst_42 : Ref sig .tc := ⟨.hbm, 331, rfl⟩
abbrev main_v193 : Ref sig .tc := ⟨.hbm, 332, rfl⟩
abbrev main_cst_43 : Ref sig .tc := ⟨.hbm, 333, rfl⟩
abbrev main_v194 : Ref sig .tc := ⟨.hbm, 334, rfl⟩
abbrev main_v195 : Ref sig .tc := ⟨.hbm, 335, rfl⟩
abbrev main_c_44 : Ref sig .tc := ⟨.hbm, 336, rfl⟩
abbrev main_call7_cst : Ref sig .tc := ⟨.hbm, 337, rfl⟩
abbrev main_call7_v0 : Ref sig .tc := ⟨.hbm, 338, rfl⟩
abbrev main_call7_v1 : Ref sig .tc := ⟨.hbm, 339, rfl⟩
abbrev main_call7_cst_0 : Ref sig .tc := ⟨.hbm, 340, rfl⟩
abbrev main_call7_v2 : Ref sig .tc := ⟨.hbm, 341, rfl⟩
abbrev main_call7_v3 : Ref sig .tc := ⟨.hbm, 342, rfl⟩
abbrev main_call7_v4 : Ref sig .tc := ⟨.hbm, 343, rfl⟩
abbrev main_call7_v5 : Ref sig .tc := ⟨.hbm, 344, rfl⟩
abbrev main_call7_v6 : Ref sig .tc := ⟨.hbm, 345, rfl⟩
abbrev main_call7_v7 : Ref sig .tc := ⟨.hbm, 346, rfl⟩
abbrev main_call7_cst_1 : Ref sig .tc := ⟨.hbm, 347, rfl⟩
abbrev main_call7_v8 : Ref sig .tc := ⟨.hbm, 348, rfl⟩
abbrev main_call7_cst_2 : Ref sig .tc := ⟨.hbm, 349, rfl⟩
abbrev main_call7_v9 : Ref sig .tc := ⟨.hbm, 350, rfl⟩
abbrev main_call7_v10 : Ref sig .tc := ⟨.hbm, 351, rfl⟩
abbrev main_call7_v11 : Ref sig .tc := ⟨.hbm, 352, rfl⟩
abbrev main_call7_cst_3 : Ref sig .tc := ⟨.hbm, 353, rfl⟩
abbrev main_call7_v12 : Ref sig .tc := ⟨.hbm, 354, rfl⟩
abbrev main_call7_cst_4 : Ref sig .tc := ⟨.hbm, 355, rfl⟩
abbrev main_call7_call0_v0 : Ref sig .tc := ⟨.hbm, 356, rfl⟩
abbrev main_call7_call0_v1 : Ref sig .tc := ⟨.hbm, 357, rfl⟩
abbrev main_v196 : Ref sig .tc := ⟨.hbm, 358, rfl⟩
abbrev main_v197 : Ref sig .tc := ⟨.hbm, 359, rfl⟩
abbrev main_v198 : Ref sig .tc := ⟨.hbm, 360, rfl⟩
abbrev main_v199 : Ref sig .tc := ⟨.hbm, 361, rfl⟩
abbrev main_cst_45 : Ref sig .tc := ⟨.hbm, 362, rfl⟩
abbrev main_v200 : Ref sig .tc := ⟨.hbm, 363, rfl⟩
abbrev main_v201 : Ref sig .tc := ⟨.hbm, 364, rfl⟩
abbrev main_v202 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_v206 : Ref sig .tc := ⟨.hbm, 369, rfl⟩
abbrev main_v207 : Ref sig .tc := ⟨.hbm, 370, rfl⟩
abbrev main_v208 : Ref sig .tc := ⟨.hbm, 371, rfl⟩
abbrev main_v209 : Ref sig .tc := ⟨.hbm, 372, rfl⟩
abbrev main_v210 : Ref sig .tc := ⟨.hbm, 373, rfl⟩
abbrev main_v211 : Ref sig .tc := ⟨.hbm, 374, rfl⟩
abbrev main_call8_cst : Ref sig .tc := ⟨.hbm, 375, rfl⟩
abbrev main_call8_v0 : Ref sig .tc := ⟨.hbm, 376, rfl⟩
abbrev main_v212 : Ref sig .tc := ⟨.hbm, 377, rfl⟩
abbrev main_v213 : Ref sig .tc := ⟨.hbm, 378, rfl⟩
abbrev main_v214 : Ref sig .tc := ⟨.hbm, 379, rfl⟩
abbrev main_v215 : Ref sig .tc := ⟨.hbm, 380, rfl⟩
abbrev main_v216 : Ref sig .tc := ⟨.hbm, 381, rfl⟩
abbrev main_v217 : Ref sig .tc := ⟨.hbm, 382, rfl⟩

abbrev nD : Nat := 1
abbrev τ : Topo := Topo.v7x

variable {F : FTy → Type} [FloatOps F]
-- ==== Proof.Network.lean ====
/- The graph network as pure functions of arrays, at any reading of the floats: the projection, one graph
   convolution, batch normalisation over the nodes, the sums of the nodes of each graph, and the dense head
   over the 64 graphs. Both programs are read in these words. -/
module

public import proofs.«01_k».proof.Proof.Gen.ReferenceIdeal

@[expose] public section

noncomputable section

namespace Cert.Proof.Network

open Idealize.ShloMosaic Cert.ReferenceIdeal Cert.ReferenceIdeal.Gen

variable {F : FTy → Type} [FloatOps F]

/-! ## The graph -/

/-- Row 0 of the edge list: where each edge starts. -/
def starts (e : IVec S2x160000 32) : IVec S160000 32 :=
  shapeCast _ (extractStridedSlice S1x160000 ![0, 0] e slices_S2x160000_S1x160000_0_0) shapeCasts_S1x160000_S160000

/-- Row 1 of the edge list: where each edge ends. -/
def ends (e : IVec S2x160000 32) : IVec S160000 32 :=
  shapeCast _ (extractStridedSlice S1x160000 ![1, 0] e slices_S2x160000_S1x160000_1_0) shapeCasts_S1x160000_S160000

/-- One row of the edge list followed by one self loop for each node. -/
def looped (e : IVec S160000 32) : IVec S170000 32 :=
  concatenate S170000 0 [⟨S160000, e⟩, ⟨S10000, iotaInDim S10000 32 0⟩] concatenates_S160000_S10000_S170000_d0

/-- Node numbers as indices: a negative one counts from the end. -/
def wrapped (e : IVec S170000 32) : IVec S170000x1 32 :=
  broadcastInDim S170000x1 ![0] bcast_S170000_S170000x1_0
    (select (cmpi .slt e (broadcastInDim S170000 ![] bcast_S_S170000 (constantI S_ 32 0#32)))
      (addi e (broadcastInDim S170000 ![] bcast_S_S170000 (constantI S_ 32 10000#32))) e)

/-- One over the square root of each node's degree (at least one). -/
def invSqrtDegree (t : IVec S170000 32) : FVec F S10000 .f32 :=
  Host.rsqrt (maximumf
    (Host.scatterAdd scatter_S10000_S170000x1_S170000_n_0_0_1
      (broadcastInDim S10000 ![] bcast_S_S10000 (constant S_ .f32 0x00000000#32)) (wrapped t)
      (broadcastInDim S170000 ![] bcast_S_S170000 (constant S_ .f32 0x3F800000#32)))
    (broadcastInDim S10000 ![] bcast_S_S10000 (constant S_ .f32 0x3F800000#32)))

/-- The weight of each edge: the two ends' inverse square root degrees multiplied. -/
def edgeWeight (s t : IVec S170000 32) : FVec F S170000 .f32 :=
  mulf (Host.gather gather_S10000_S170000x1_S170000_n_0_n_n_0_1_1 (invSqrtDegree t) (wrapped s))
    (Host.gather gather_S10000_S170000x1_S170000_n_0_n_n_0_1_1 (invSqrtDegree t) (wrapped t))

/-! ## The node layers -/

/-- The projection of the node features to width 512. -/
def project (x : FVec F S10000x256 .f32) (w : FVec F S256x512 .f32) (b : FVec F S512 .f32) : FVec F S10000x512 .f32 :=
  addf (Host.dotGeneral dot_S10000x256_S256x512_S10000x512_1_0_0_1_n_n none x w)
    (broadcastInDim S10000x512 ![0, 1] bcast_S1x512_S10000x512_0_1 (broadcastInDim S1x512 ![1] bcast_S512_S1x512_1 b))

/-- Width 512: the positive part. -/
def relu512 (x : FVec F S10000x512 .f32) : FVec F S10000x512 .f32 :=
  maximumf x (broadcastInDim S10000x512 ![] bcast_S_S10000x512 (constant S_ .f32 0x00000000#32))

/-- Width 256: the positive part. -/
def relu256 (x : FVec F S10000x256 .f32) : FVec F S10000x256 .f32 :=
  maximumf x (broadcastInDim S10000x256 ![] bcast_S_S10000x256 (constant S_ .f32 0x00000000#32))

/-- Width 512: one graph convolution. Each edge carries its start's transformed features, weighted, to its end. -/
def conv512 (h : FVec F S10000x512 .f32) (s t : IVec S170000 32) (w : FVec F S512x512 .f32) (b : FVec F S512 .f32) :
    FVec F S10000x512 .f32 :=
  addf (Host.scatterAdd scatter_S10000x512_S170000x1_S170000x512_1_0_0_1
      (broadcastInDim S10000x512 ![] bcast_S_S10000x512 (constant S_ .f32 0x00000000#32)) (wrapped t)
      (mulf (Host.gather gather_S10000x512_S170000x1_S170000x512_1_0_n_n_0_1_1512
          (Host.dotGeneral dot_S10000x512_S512x512_S10000x512_1_0_0_1_n_n none h w) (wrapped s))
        (broadcastInDim S170000x512 ![0, 1] bcast_S170000x1_S170000x512_0_1
          (broadcastInDim S170000x1 ![0] bcast_S170000_S170000x1_0 (edgeWeight s t)))))
    (broadcastInDim S10000x512 ![0, 1] bcast_S1x512_S10000x512_0_1 (broadcastInDim S1x512 ![1] bcast_S512_S1x512_1 b))

/-- Width 256: one graph convolution. -/
def conv256 (h : FVec F S10000x512 .f32) (s t : IVec S170000 32) (w : FVec F S512x256 .f32) (b : FVec F S256 .f32) :
    FVec F S10000x256 .f32 :=
  addf (Host.scatterAdd scatter_S10000x256_S170000x1_S170000x256_1_0_0_1
      (broadcastInDim S10000x256 ![] bcast_S_S10000x256 (constant S_ .f32 0x00000000#32)) (wrapped t)
      (mulf (Host.gather gather_S10000x256_S170000x1_S170000x256_1_0_n_n_0_1_1256
          (Host.dotGeneral dot_S10000x512_S512x256_S10000x256_1_0_0_1_n_n none h w) (wrapped s))
        (broadcastInDim S170000x256 ![0, 1] bcast_S170000x1_S170000x256_0_1
          (broadcastInDim S170000x1 ![0] bcast_S170000_S170000x1_0 (edgeWeight s t)))))
    (broadcastInDim S10000x256 ![0, 1] bcast_S1x256_S10000x256_0_1 (broadcastInDim S1x256 ![1] bcast_S256_S1x256_1 b))

/-- Width 512: each column's mean over the nodes. -/
def mean512 (x : FVec F S10000x512 .f32) : FVec F S512 .f32 :=
  Host.divf (Host.reduceAdd x (constant S_ .f32 0x00000000#32) reducesTo_S10000x512_S512_d0 h_S_)
    (broadcastInDim S512 ![] bcast_S_S512 (constant S_ .f32 0x461C4000#32))

/-- Width 512: each entry less its column's mean. -/
def centred512 (x : FVec F S10000x512 .f32) : FVec F S10000x512 .f32 :=
  subf x (broadcastInDim S10000x512 ![0, 1] bcast_S1x512_S10000x512_0_1
    (Host.divf (broadcastInDim S1x512 ![1] bcast_S512_S1x512_1
        (Host.reduceAdd x (constant S_ .f32 0x00000000#32) reducesTo_S10000x512_S512_d0 h_S_))
      (broadcastInDim S1x512 ![] bcast_S_S1x512 (constant S_ .f32 0x461C4000#32))))

/-- The node count less the correction `c`. -/
def freedom (c : IVec S_ 32) : FVec F S_ .f32 := subf (constant S_ .f32 0x461C4000#32) (sitofp .f32 c)

/-- Width 512: each column's variance over the nodes, with correction `c`. -/
def var512 (x : FVec F S10000x512 .f32) (c : IVec S_ 32) : FVec F S512 .f32 :=
  select (broadcastInDim S512 ![] bcast_S_S512 (cmpf .ogt (freedom (F := F) c) (constant S_ .f32 0x00000000#32)))
    (Host.divf (Host.reduceAdd (mulf (centred512 x) (centred512 x)) (constant S_ .f32 0x00000000#32) reducesTo_S10000x512_S512_d0 h_S_)
      (broadcastInDim S512 ![] bcast_S_S512 (freedom c)))
    (broadcastInDim S512 ![] bcast_S_S512 (id (constant S_ .f32 0x7FC00000#32)))

/-- Width 512: batch normalisation with mean `u`, variance `v`, scale `g` and shift `b`. -/
def norm512 (x : FVec F S10000x512 .f32) (u v g b : FVec F S512 .f32) : FVec F S10000x512 .f32 :=
  addf (mulf (mulf
      (subf x (broadcastInDim S10000x512 ![0, 1] bcast_S1x512_S10000x512_0_1 (broadcastInDim S1x512 ![1] bcast_S512_S1x512_1 u)))
      (broadcastInDim S10000x512 ![0, 1] bcast_S1x512_S10000x512_0_1 (broadcastInDim S1x512 ![1] bcast_S512_S1x512_1
        (Host.rsqrt (addf v (broadcastInDim S512 ![] bcast_S_S512 (constant S_ .f32 0x3727C5AC#32)))))))
      (broadcastInDim S10000x512 ![0, 1] bcast_S1x512_S10000x512_0_1 (broadcastInDim S1x512 ![1] bcast_S512_S1x512_1 g)))
    (broadcastInDim S10000x512 ![0, 1] bcast_S1x512_S10000x512_0_1 (broadcastInDim S1x512 ![1] bcast_S512_S1x512_1 b))

/-- Width 256: each column's mean over the nodes. -/
def mean256 (x : FVec F S10000x256 .f32) : FVec F S256 .f32 :=
  Host.divf (Host.reduceAdd x (constant S_ .f32 0x00000000#32) reducesTo_S10000x256_S256_d0 h_S_)
    (broadcastInDim S256 ![] bcast_S_S256 (constant S_ .f32 0x461C4000#32))

/-- Width 256: each entry less its column's mean. -/
def centred256 (x : FVec F S10000x256 .f32) : FVec F S10000x256 .f32 :=
  subf x (broadcastInDim S10000x256 ![0, 1] bcast_S1x256_S10000x256_0_1
    (Host.divf (broadcastInDim S1x256 ![1] bcast_S256_S1x256_1
        (Host.reduceAdd x (constant S_ .f32 0x00000000#32) reducesTo_S10000x256_S256_d0 h_S_))
      (broadcastInDim S1x256 ![] bcast_S_S1x256 (constant S_ .f32 0x461C4000#32))))

/-- Width 256: each column's variance over the nodes, with correction `c`. -/
def var256 (x : FVec F S10000x256 .f32) (c : IVec S_ 32) : FVec F S256 .f32 :=
  select (broadcastInDim S256 ![] bcast_S_S256 (cmpf .ogt (freedom (F := F) c) (constant S_ .f32 0x00000000#32)))
    (Host.divf (Host.reduceAdd (mulf (centred256 x) (centred256 x)) (constant S_ .f32 0x00000000#32) reducesTo_S10000x256_S256_d0 h_S_)
      (broadcastInDim S256 ![] bcast_S_S256 (freedom c)))
    (broadcastInDim S256 ![] bcast_S_S256 (id (constant S_ .f32 0x7FC00000#32)))

/-- Width 256: batch normalisation with mean `u`, variance `v`, scale `g` and shift `b`. -/
def norm256 (x : FVec F S10000x256 .f32) (u v g b : FVec F S256 .f32) : FVec F S10000x256 .f32 :=
  addf (mulf (mulf
      (subf x (broadcastInDim S10000x256 ![0, 1] bcast_S1x256_S10000x256_0_1 (broadcastInDim S1x256 ![1] bcast_S256_S1x256_1 u)))
      (broadcastInDim S10000x256 ![0, 1] bcast_S1x256_S10000x256_0_1 (broadcastInDim S1x256 ![1] bcast_S256_S1x256_1
        (Host.rsqrt (addf v (broadcastInDim S256 ![] bcast_S_S256 (constant S_ .f32 0x3727C5AC#32)))))))
      (broadcastInDim S10000x256 ![0, 1] bcast_S1x256_S10000x256_0_1 (broadcastInDim S1x256 ![1] bcast_S256_S1x256_1 g)))
    (broadcastInDim S10000x256 ![0, 1] bcast_S1x256_S10000x256_0_1 (broadcastInDim S1x256 ![1] bcast_S256_S1x256_1 b))

/-! ## The graphs -/

/-- The sum of the node features of each of the 64 graphs. -/
def graphSums (x : FVec F S10000x256 .f32) (g : IVec S10000 32) : FVec F S64x256 .f32 :=
  Host.scatterAdd scatter_S64x256_S10000x1_S10000x256_1_0_0_1
    (broadcastInDim S64x256 ![] bcast_S_S64x256 (constant S_ .f32 0x00000000#32))
    (broadcastInDim S10000x1 ![0] bcast_S10000_S10000x1_0 g) x

/-- How many nodes each of the 64 graphs has. -/
def graphCounts (g : IVec S10000 32) : FVec F S64 .f32 :=
  Host.scatterAdd scatter_S64_S10000x1_S10000_n_0_0_1
    (broadcastInDim S64 ![] bcast_S_S64 (constant S_ .f32 0x00000000#32))
    (broadcastInDim S10000x1 ![0] bcast_S10000_S10000x1_0 g)
    (broadcastInDim S10000 ![] bcast_S_S10000 (constant S_ .f32 0x3F800000#32))

/-! ## The head, in the reference's operations -/

/-- The mean features of each graph (an empty graph is divided by one) through the first dense layer. -/
def dense1 (sums : FVec F S64x256 .f32) (counts : FVec F S64 .f32) (w : FVec F S256x512 .f32) (b : FVec F S512 .f32) :
    FVec F S64x512 .f32 :=
  addf (Host.dotGeneral dot_S64x256_S256x512_S64x512_1_0_0_1_n_n none
      (Host.divf sums (broadcastInDim S64x256 ![0, 1] bcast_S64x1_S64x256_0_1 (broadcastInDim S64x1 ![0] bcast_S64_S64x1_0
        (maximumf counts (broadcastInDim S64 ![] bcast_S_S64 (constant S_ .f32 0x3F800000#32)))))) w)
    (broadcastInDim S64x512 ![0, 1] bcast_S1x512_S64x512_0_1 (broadcastInDim S1x512 ![1] bcast_S512_S1x512_1 b))

/-- The graph count less the correction zero. -/
def headFreedom : FVec F S_ .f32 := subf (constant S_ .f32 0x42800000#32) (sitofp .f32 (constantI S_ 32 0#32))

/-- Width 512: each entry less its column's mean over the graphs. -/
def headCentred512 (x : FVec F S64x512 .f32) : FVec F S64x512 .f32 :=
  subf x (broadcastInDim S64x512 ![0, 1] bcast_S1x512_S64x512_0_1
    (Host.divf (broadcastInDim S1x512 ![1] bcast_S512_S1x512_1
        (Host.reduceAdd x (constant S_ .f32 0x00000000#32) reducesTo_S64x512_S512_d0 h_S_))
      (broadcastInDim S1x512 ![] bcast_S_S1x512 (constant S_ .f32 0x42800000#32))))

/-- Width 512: batch normalisation over the graphs. -/
def headNorm512 (x : FVec F S64x512 .f32) (g b : FVec F S512 .f32) : FVec F S64x512 .f32 :=
  addf (mulf (mulf
      (subf x (broadcastInDim S64x512 ![0, 1] bcast_S1x512_S64x512_0_1 (broadcastInDim S1x512 ![1] bcast_S512_S1x512_1
        (Host.divf (Host.reduceAdd x (constant S_ .f32 0x00000000#32) reducesTo_S64x512_S512_d0 h_S_)
          (broadcastInDim S512 ![] bcast_S_S512 (constant S_ .f32 0x42800000#32))))))
      (broadcastInDim S64x512 ![0, 1] bcast_S1x512_S64x512_0_1 (broadcastInDim S1x512 ![1] bcast_S512_S1x512_1
        (Host.rsqrt (addf
          (select (broadcastInDim S512 ![] bcast_S_S512 (cmpf .ogt (headFreedom (F := F)) (constant S_ .f32 0x00000000#32)))
            (Host.divf (Host.reduceAdd (mulf (headCentred512 x) (headCentred512 x)) (constant S_ .f32 0x00000000#32) reducesTo_S64x512_S512_d0 h_S_)
              (broadcastInDim S512 ![] bcast_S_S512 headFreedom))
            (broadcastInDim S512 ![] bcast_S_S512 (id (constant S_ .f32 0x7FC00000#32))))
          (broadcastInDim S512 ![] bcast_S_S512 (constant S_ .f32 0x3727C5AC#32)))))))
      (broadcastInDim S64x512 ![0, 1] bcast_S1x512_S64x512_0_1 (broadcastInDim S1x512 ![1] bcast_S512_S1x512_1 g)))
    (broadcastInDim S64x512 ![0, 1] bcast_S1x512_S64x512_0_1 (broadcastInDim S1x512 ![1] bcast_S512_S1x512_1 b))

/-- The second dense layer, over the positive part of the first. -/
def dense2 (x : FVec F S64x512 .f32) (w : FVec F S512x256 .f32) (b : FVec F S256 .f32) : FVec F S64x256 .f32 :=
  addf (Host.dotGeneral dot_S64x512_S512x256_S64x256_1_0_0_1_n_n none
      (maximumf x (broadcastInDim S64x512 ![] bcast_S_S64x512 (constant S_ .f32 0x00000000#32))) w)
    (broadcastInDim S64x256 ![0, 1] bcast_S1x256_S64x256_0_1 (broadcastInDim S1x256 ![1] bcast_S256_S1x256_1 b))

/-- Width 256: each entry less its column's mean over the graphs. -/
def headCentred256 (x : FVec F S64x256 .f32) : FVec F S64x256 .f32 :=
  subf x (broadcastInDim S64x256 ![0, 1] bcast_S1x256_S64x256_0_1
    (Host.divf (broadcastInDim S1x256 ![1] bcast_S256_S1x256_1
        (Host.reduceAdd x (constant S_ .f32 0x00000000#32) reducesTo_S64x256_S256_d0 h_S_))
      (broadcastInDim S1x256 ![] bcast_S_S1x256 (constant S_ .f32 0x42800000#32))))

/-- Width 256: batch normalisation over the graphs. -/
def headNorm256 (x : FVec F S64x256 .f32) (g b : FVec F S256 .f32) : FVec F S64x256 .f32 :=
  addf (mulf (mulf
      (subf x (broadcastInDim S64x256 ![0, 1] bcast_S1x256_S64x256_0_1 (broadcastInDim S1x256 ![1] bcast_S256_S1x256_1
        (Host.divf (Host.reduceAdd x (constant S_ .f32 0x00000000#32) reducesTo_S64x256_S256_d0 h_S_)
          (broadcastInDim S256 ![] bcast_S_S256 (constant S_ .f32 0x42800000#32))))))
      (broadcastInDim S64x256 ![0, 1] bcast_S1x256_S64x256_0_1 (broadcastInDim S1x256 ![1] bcast_S256_S1x256_1
        (Host.rsqrt (addf
          (select (broadcastInDim S256 ![] bcast_S_S256 (cmpf .ogt (headFreedom (F := F)) (constant S_ .f32 0x00000000#32)))
            (Host.divf (Host.reduceAdd (mulf (headCentred256 x) (headCentred256 x)) (constant S_ .f32 0x00000000#32) reducesTo_S64x256_S256_d0 h_S_)
              (broadcastInDim S256 ![] bcast_S_S256 headFreedom))
            (broadcastInDim S256 ![] bcast_S_S256 (id (constant S_ .f32 0x7FC00000#32))))
          (broadcastInDim S256 ![] bcast_S_S256 (constant S_ .f32 0x3727C5AC#32)))))))
      (broadcastInDim S64x256 ![0, 1] bcast_S1x256_S64x256_0_1 (broadcastInDim S1x256 ![1] bcast_S256_S1x256_1 g)))
    (broadcastInDim S64x256 ![0, 1] bcast_S1x256_S64x256_0_1 (broadcastInDim S1x256 ![1] bcast_S256_S1x256_1 b))

/-- The last dense layer, over the positive part of the second: one number for each graph. -/
def dense3 (x : FVec F S64x256 .f32) (w : FVec F S256x1 .f32) (b : FVec F S1 .f32) : FVec F S64x1 .f32 :=
  addf (Host.dotGeneral dot_S64x256_S256x1_S64x1_1_0_0_1_n_n none
      (maximumf x (broadcastInDim S64x256 ![] bcast_S_S64x256 (constant S_ .f32 0x00000000#32))) w)
    (broadcastInDim S64x1 ![0, 1] bcast_S1x1_S64x1_0_1 (broadcastInDim S1x1 ![1] bcast_S1_S1x1_1 b))

/-- The whole head: three dense layers with batch normalisation and positive part between them. -/
def head (sums : FVec F S64x256 .f32) (counts : FVec F S64 .f32)
    (w1 : FVec F S256x512 .f32) (b1 g1 e1 : FVec F S512 .f32) (w2 : FVec F S512x256 .f32) (b2 g2 e2 : FVec F S256 .f32)
    (w3 : FVec F S256x1 .f32) (b3 : FVec F S1 .f32) : FVec F S64x1 .f32 :=
  dense3 (headNorm256 (dense2 (headNorm512 (dense1 sums counts w1 b1) g1 e1) w2 b2) g2 e2) w3 b3

/-! ## The node layers together -/

/-- The first convolution's output. -/
def layer1 (x : FVec F S10000x256 .f32) (e : IVec S2x160000 32) (wp : FVec F S256x512 .f32) (bp : FVec F S512 .f32)
    (w1 : FVec F S512x512 .f32) (b1 : FVec F S512 .f32) : FVec F S10000x512 .f32 :=
  conv512 (relu512 (project x wp bp)) (looped (starts e)) (looped (ends e)) w1 b1

/-- The second convolution's output, of the first's. -/
def layer2 (y : FVec F S10000x512 .f32) (e : IVec S2x160000 32) (g1 e1 : FVec F S512 .f32)
    (w2 : FVec F S512x256 .f32) (b2 : FVec F S256 .f32) : FVec F S10000x256 .f32 :=
  conv256 (relu512 (norm512 y (mean512 y) (var512 y (constantI S_ 32 0#32)) g1 e1)) (looped (starts e)) (looped (ends e)) w2 b2

/-- The graphs' sums of the second convolution's output, normalised and cut to its positive part. -/
def pooled (y : FVec F S10000x256 .f32) (g : IVec S10000 32) (g2 e2 : FVec F S256 .f32) : FVec F S64x256 .f32 :=
  graphSums (relu256 (norm256 y (mean256 y) (var256 y (constantI S_ 32 0#32)) g2 e2)) g

/-- The whole network: two graph convolutions, the graphs' sums and counts, the head. -/
def network (x : FVec F S10000x256 .f32) (e : IVec S2x160000 32) (n : IVec S10000 32) (wp : FVec F S256x512 .f32) (bp : FVec F S512 .f32)
    (w1 : FVec F S512x512 .f32) (b1 g1 e1 : FVec F S512 .f32) (w2 : FVec F S512x256 .f32) (b2 g2 e2 : FVec F S256 .f32)
    (v1 : FVec F S256x512 .f32) (c1 h1 k1 : FVec F S512 .f32) (v2 : FVec F S512x256 .f32) (c2 h2 k2 : FVec F S256 .f32)
    (v3 : FVec F S256x1 .f32) (c3 : FVec F S1 .f32) : FVec F S64x1 .f32 :=
  head (pooled (layer2 (layer1 x e wp bp w1 b1) e g1 e1 w2 b2) n g2 e2) (graphCounts n) v1 c1 h1 k1 v2 c2 h2 k2 v3 c3

end Cert.Proof.Network

end
-- ==== Proof.HostRead.lean ====
/- The kernel's host operations before its launch, stretch by stretch, in the words of Network.lean: what each stretch
   leaves in the buffers that later stretches or the launch read. -/
module

public import proofs.«01_k».proof.Proof.Gen.KernelIdeal.Launch
public import Idealize.ShloMosaic.Lib.StableHlo.RunRead
public import Idealize.ShloMosaic.Lib.Pipeline.Frame
public import proofs.«01_k».proof.Proof.Network

@[expose] public section

set_option maxRecDepth 8192
set_option maxHeartbeats 2000000

noncomputable section

namespace Cert.Proof.HostRead

open Idealize.ShloMosaic Idealize.ShloMosaic.StableHlo Cert.KernelIdeal Cert.KernelIdeal.Gen
open Cert.Proof.Network

variable {F : FTy → Type} [FloatOps F]

variable (V : Valuation τ sig (Elt F))

/-! ## The projection -/

/-- The first stretch leaves the edges' starting nodes in `main_v1`. -/
theorem starts_read : after hostOps0 V (no_index (Proc.devRef .tc main_v1)) = starts (V (Proc.devRef .tc main_arg1)) := by
  after_reads_simp; rfl

/-- The first stretch leaves the edges' end nodes in `main_v3`. -/
theorem ends_read : after hostOps0 V (no_index (Proc.devRef .tc main_v3)) = ends (V (Proc.devRef .tc main_arg1)) := by
  after_reads_simp; rfl

/-- The first stretch leaves the projected node features in `main_v7`. -/
theorem project_read : after hostOps0 V (no_index (Proc.devRef .tc main_v7))
    = project (V (Proc.devRef .tc main_arg0)) (V (Proc.devRef .tc main_arg3)) (V (Proc.devRef .tc main_arg4)) := by
  after_reads_simp; rfl

/-- The second stretch takes the positive part of the projection. -/
theorem relu_read : after hostOps0_1 V (no_index (Proc.devRef .tc main_v8)) = relu512 (V (Proc.devRef .tc main_v7)) := by
  after_reads_simp; rfl

/-! ## The first convolution and its normalisation -/

/-- Before the first convolution, each node is appended to the starting nodes as its own neighbour. -/
theorem looped1_read : after (hostOps0_2.take 3) V (no_index (Proc.devRef .tc main_v10)) = looped (V (Proc.devRef .tc main_v1)) := by
  simp only [List.take]; after_reads_simp; rfl

/-- Before the first convolution, each node is appended to the end nodes as its own neighbour. -/
theorem looped1_read' : after (hostOps0_2.take 3) V (no_index (Proc.devRef .tc main_v11)) = looped (V (Proc.devRef .tc main_v3)) := by
  simp only [List.take]; after_reads_simp; rfl

/-- The third stretch leaves the first convolution in `main_v60`. -/
theorem conv1_read : after (hostOps0_2.drop 3) V (no_index (Proc.devRef .tc main_v60))
    = conv512 (V (Proc.devRef .tc main_v8)) (V (Proc.devRef .tc main_v10)) (V (Proc.devRef .tc main_v11))
        (V (Proc.devRef .tc main_arg5)) (V (Proc.devRef .tc main_arg6)) := by
  simp only [List.drop]; after_reads_simp; rfl

/-- The third stretch leaves the first convolution's column means in `main_v63`. -/
theorem mean1_read : after (hostOps0_2.drop 3) V (no_index (Proc.devRef .tc main_v63))
    = mean512 (conv512 (V (Proc.devRef .tc main_v8)) (V (Proc.devRef .tc main_v10)) (V (Proc.devRef .tc main_v11))
        (V (Proc.devRef .tc main_arg5)) (V (Proc.devRef .tc main_arg6))) := by
  simp only [List.drop]; after_reads_simp; rfl

/-- The variance's correction of the degrees of freedom is zero in the first normalisation. -/
theorem correction1_read : after (hostOps0_2.drop 3) V (no_index (Proc.devRef .tc main_c_14)) = constantI S_ 32 0#32 := by
  simp only [List.drop]; after_reads_simp

/-- The next stretch leaves the first convolution's column variances in `main_v64`. -/
theorem var1_read : after hostOps0_3 V (no_index (Proc.devRef .tc main_v64)) = var512 (V (Proc.devRef .tc main_v60)) (V (Proc.devRef .tc main_c_14)) := by
  after_reads_simp; rfl

/-- The next stretch leaves the normalised first convolution in `main_v79`. -/
theorem norm1_read : after hostOps0_4 V (no_index (Proc.devRef .tc main_v79))
    = norm512 (V (Proc.devRef .tc main_v60)) (V (Proc.devRef .tc main_v63)) (V (Proc.devRef .tc main_v64))
        (V (Proc.devRef .tc main_arg7)) (V (Proc.devRef .tc main_arg8)) := by
  after_reads_simp; rfl

/-- The next stretch takes the positive part of the normalised first convolution. -/
theorem relu1_read : after hostOps0_5 V (no_index (Proc.devRef .tc main_v80)) = relu512 (V (Proc.devRef .tc main_v79)) := by
  after_reads_simp; rfl

/-! ## The second convolution and its normalisation -/

/-- Before the second convolution, each node is appended to the starting nodes as its own neighbour. -/
theorem looped2_read : after (hostOps0_6.take 3) V (no_index (Proc.devRef .tc main_v82)) = looped (V (Proc.devRef .tc main_v1)) := by
  simp only [List.take]; after_reads_simp; rfl

/-- Before the second convolution, each node is appended to the end nodes as its own neighbour. -/
theorem looped2_read' : after (hostOps0_6.take 3) V (no_index (Proc.devRef .tc main_v83)) = looped (V (Proc.devRef .tc main_v3)) := by
  simp only [List.take]; after_reads_simp; rfl

/-- The stretch that convolves again leaves the second convolution in `main_v132`. -/
theorem conv2_read : after (hostOps0_6.drop 3) V (no_index (Proc.devRef .tc main_v132))
    = conv256 (V (Proc.devRef .tc main_v80)) (V (Proc.devRef .tc main_v82)) (V (Proc.devRef .tc main_v83))
        (V (Proc.devRef .tc main_arg9)) (V (Proc.devRef .tc main_arg10)) := by
  simp only [List.drop]; after_reads_simp; rfl

/-- The stretch that convolves again leaves the second convolution's column means in `main_v135`. -/
theorem mean2_read : after (hostOps0_6.drop 3) V (no_index (Proc.devRef .tc main_v135))
    = mean256 (conv256 (V (Proc.devRef .tc main_v80)) (V (Proc.devRef .tc main_v82)) (V (Proc.devRef .tc main_v83))
        (V (Proc.devRef .tc main_arg9)) (V (Proc.devRef .tc main_arg10))) := by
  simp only [List.drop]; after_reads_simp; rfl

/-- The variance's correction of the degrees of freedom is zero in the second normalisation. -/
theorem correction2_read : after (hostOps0_6.drop 3) V (no_index (Proc.devRef .tc main_c_32)) = constantI S_ 32 0#32 := by
  simp only [List.drop]; after_reads_simp

/-- The next stretch leaves the second convolution's column variances in `main_v136`. -/
theorem var2_read : after hostOps0_7 V (no_index (Proc.devRef .tc main_v136)) = var256 (V (Proc.devRef .tc main_v132)) (V (Proc.devRef .tc main_c_32)) := by
  after_reads_simp; rfl

/-- The next stretch leaves the normalised second convolution in `main_v151`. -/
theorem norm2_read : after hostOps0_8 V (no_index (Proc.devRef .tc main_v151))
    = norm256 (V (Proc.devRef .tc main_v132)) (V (Proc.devRef .tc main_v135)) (V (Proc.devRef .tc main_v136))
        (V (Proc.devRef .tc main_arg11)) (V (Proc.devRef .tc main_arg12)) := by
  after_reads_simp; rfl

/-- The next stretch takes the positive part of the normalised second convolution. -/
theorem relu2_read : after hostOps0_9 V (no_index (Proc.devRef .tc main_v152)) = relu256 (V (Proc.devRef .tc main_v151)) := by
  after_reads_simp; rfl

/-! ## The graphs' sums and counts, and the head's parameters as rows -/

/-- The last stretch leaves each graph's sum of node features in `main_v155`. -/
theorem sums_read : after hostOps0_10 V (no_index (Proc.devRef .tc main_v155))
    = graphSums (V (Proc.devRef .tc main_v152)) (V (Proc.devRef .tc main_arg2)) := by
  after_reads_simp; rfl

/-- The last stretch leaves each graph's number of nodes in `main_v160`, as a column. -/
theorem counts_read : after hostOps0_10 V (no_index (Proc.devRef .tc main_v160))
    = broadcastInDim S64x1 ![0] bcast_S64_S64x1_0 (graphCounts (V (Proc.devRef .tc main_arg2))) := by
  after_reads_simp; rfl

/-- The last stretch leaves argument 14 in `main_v161`, as a row. -/
theorem row161_read : after hostOps0_10 V (no_index (Proc.devRef .tc main_v161))
    = broadcastInDim S1x512 ![1] bcast_S512_S1x512_1 (V (Proc.devRef .tc main_arg14)) := by
  after_reads_simp

/-- The last stretch leaves argument 15 in `main_v162`, as a row. -/
theorem row162_read : after hostOps0_10 V (no_index (Proc.devRef .tc main_v162))
    = broadcastInDim S1x512 ![1] bcast_S512_S1x512_1 (V (Proc.devRef .tc main_arg15)) := by
  after_reads_simp

/-- The last stretch leaves argument 16 in `main_v163`, as a row. -/
theorem row163_read : after hostOps0_10 V (no_index (Proc.devRef .tc main_v163))
    = broadcastInDim S1x512 ![1] bcast_S512_S1x512_1 (V (Proc.devRef .tc main_arg16)) := by
  after_reads_simp

/-- The last stretch leaves argument 18 in `main_v164`, as a row. -/
theorem row164_read : after hostOps0_10 V (no_index (Proc.devRef .tc main_v164))
    = broadcastInDim S1x256 ![1] bcast_S256_S1x256_1 (V (Proc.devRef .tc main_arg18)) := by
  after_reads_simp

/-- The last stretch leaves argument 19 in `main_v165`, as a row. -/
theorem row165_read : after hostOps0_10 V (no_index (Proc.devRef .tc main_v165))
    = broadcastInDim S1x256 ![1] bcast_S256_S1x256_1 (V (Proc.devRef .tc main_arg19)) := by
  after_reads_simp

/-- The last stretch leaves argument 20 in `main_v166`, as a row. -/
theorem row166_read : after hostOps0_10 V (no_index (Proc.devRef .tc main_v166))
    = broadcastInDim S1x256 ![1] bcast_S256_S1x256_1 (V (Proc.devRef .tc main_arg20)) := by
  after_reads_simp

/-- The last stretch leaves argument 22 in `main_v167`, as a row. -/
theorem row167_read : after hostOps0_10 V (no_index (Proc.devRef .tc main_v167))
    = broadcastInDim S1x1 ![1] bcast_S1_S1x1_1 (V (Proc.devRef .tc main_arg22)) := by
  after_reads_simp

end Cert.Proof.HostRead

end
-- ==== Proof.HostPrefix.lean ====
/- The kernel's host operations before its launch, all stretches in a row: what the launch finds in the arrays it
   reads, in the words of Network.lean, as functions of the arguments. -/
module

public import proofs.«01_k».proof.Proof.HostRead

@[expose] public section

set_option maxRecDepth 8192
set_option maxHeartbeats 2000000

noncomputable section

namespace Cert.Proof.HostPrefix

open Idealize.ShloMosaic Idealize.ShloMosaic.StableHlo Cert.KernelIdeal Cert.KernelIdeal.Gen
open Cert.Proof.Network Cert.Proof.HostRead

variable {F : FTy → Type} [FloatOps F]

variable (V : Valuation τ sig (Elt F))

/-! ## The contents after each stretch -/

/-- The contents after the projection. -/
def s1 : Valuation τ sig (Elt F) := after hostOps0 V

/-- The contents after the first positive part. -/
def s2 : Valuation τ sig (Elt F) := after hostOps0_1 (s1 V)

/-- The contents after the first self loops. -/
def s3 : Valuation τ sig (Elt F) := after (hostOps0_2.take 3) (s2 V)

/-- The contents after the first convolution. -/
def s4 : Valuation τ sig (Elt F) := after (hostOps0_2.drop 3) (s3 V)

/-- The contents after its variance. -/
def s5 : Valuation τ sig (Elt F) := after hostOps0_3 (s4 V)

/-- The contents after its normalisation. -/
def s6 : Valuation τ sig (Elt F) := after hostOps0_4 (s5 V)

/-- The contents after its positive part. -/
def s7 : Valuation τ sig (Elt F) := after hostOps0_5 (s6 V)

/-- The contents after the second self loops. -/
def s8 : Valuation τ sig (Elt F) := after (hostOps0_6.take 3) (s7 V)

/-- The contents after the second convolution. -/
def s9 : Valuation τ sig (Elt F) := after (hostOps0_6.drop 3) (s8 V)

/-- The contents after its variance. -/
def s10 : Valuation τ sig (Elt F) := after hostOps0_7 (s9 V)

/-- The contents after its normalisation. -/
def s11 : Valuation τ sig (Elt F) := after hostOps0_8 (s10 V)

/-- The contents after its positive part. -/
def s12 : Valuation τ sig (Elt F) := after hostOps0_9 (s11 V)

/-- The contents after the sums and counts. -/
def s13 : Valuation τ sig (Elt F) := after hostOps0_10 (s12 V)

/-- The stretches in a row are the whole list of operations before the launch. -/
theorem prefix_eq : after (List.flatten [hostOps0, hostOps0_1, hostOps0_2, hostOps0_3, hostOps0_4, hostOps0_5, hostOps0_6, hostOps0_7,
    hostOps0_8, hostOps0_9, hostOps0_10]) V = s13 V := by
  have cut : ∀ (l : List (HloOp τ sig (Elt F))) (n : ℕ) (U : Valuation τ sig (Elt F)),
      after (l.drop n) (after (l.take n) U) = after l U := fun l n U => by
    rw [← after_append, List.take_append_drop]
  unfold s13 s12 s11 s10 s9 s8 s7 s6 s5 s4 s3 s2 s1
  rw [cut, cut]
  simp only [List.flatten_cons, List.flatten_nil, List.append_nil, after_append]

/-! ## What no stretch between writes keeps its contents -/

/-- Argument 5 is still as launched after stretch 3. -/
theorem arg5_at3 : s3 V (Proc.devRef .tc main_arg5) = V (Proc.devRef .tc main_arg5) := by
  unfold s3 s2 s1; simp only [List.take]; after_reads_simp

/-- Argument 6 is still as launched after stretch 3. -/
theorem arg6_at3 : s3 V (Proc.devRef .tc main_arg6) = V (Proc.devRef .tc main_arg6) := by
  unfold s3 s2 s1; simp only [List.take]; after_reads_simp

/-- Argument 7 is still as launched after stretch 5. -/
theorem arg7_at5 : s5 V (Proc.devRef .tc main_arg7) = V (Proc.devRef .tc main_arg7) := by
  unfold s5 s4 s3 s2 s1; simp only [List.take, List.drop]; after_reads_simp

/-- Argument 8 is still as launched after stretch 5. -/
theorem arg8_at5 : s5 V (Proc.devRef .tc main_arg8) = V (Proc.devRef .tc main_arg8) := by
  unfold s5 s4 s3 s2 s1; simp only [List.take, List.drop]; after_reads_simp

/-- Argument 9 is still as launched after stretch 8. -/
theorem arg9_at8 : s8 V (Proc.devRef .tc main_arg9) = V (Proc.devRef .tc main_arg9) := by
  unfold s8 s7 s6 s5 s4 s3 s2 s1; simp only [List.take, List.drop]; after_reads_simp

/-- Argument 10 is still as launched after stretch 8. -/
theorem arg10_at8 : s8 V (Proc.devRef .tc main_arg10) = V (Proc.devRef .tc main_arg10) := by
  unfold s8 s7 s6 s5 s4 s3 s2 s1; simp only [List.take, List.drop]; after_reads_simp

/-- Argument 11 is still as launched after stretch 10. -/
theorem arg11_at10 : s10 V (Proc.devRef .tc main_arg11) = V (Proc.devRef .tc main_arg11) := by
  unfold s10 s9 s8 s7 s6 s5 s4 s3 s2 s1; simp only [List.take, List.drop]; after_reads_simp

/-- Argument 12 is still as launched after stretch 10. -/
theorem arg12_at10 : s10 V (Proc.devRef .tc main_arg12) = V (Proc.devRef .tc main_arg12) := by
  unfold s10 s9 s8 s7 s6 s5 s4 s3 s2 s1; simp only [List.take, List.drop]; after_reads_simp

/-- Argument 2 is still as launched after stretch 12. -/
theorem arg2_at12 : s12 V (Proc.devRef .tc main_arg2) = V (Proc.devRef .tc main_arg2) := by
  unfold s12 s11 s10 s9 s8 s7 s6 s5 s4 s3 s2 s1; simp only [List.take, List.drop]; after_reads_simp

/-- Argument 14 is still as launched after stretch 12. -/
theorem arg14_at12 : s12 V (Proc.devRef .tc main_arg14) = V (Proc.devRef .tc main_arg14) := by
  unfold s12 s11 s10 s9 s8 s7 s6 s5 s4 s3 s2 s1; simp only [List.take, List.drop]; after_reads_simp

/-- Argument 15 is still as launched after stretch 12. -/
theorem arg15_at12 : s12 V (Proc.devRef .tc main_arg15) = V (Proc.devRef .tc main_arg15) := by
  unfold s12 s11 s10 s9 s8 s7 s6 s5 s4 s3 s2 s1; simp only [List.take, List.drop]; after_reads_simp

/-- Argument 16 is still as launched after stretch 12. -/
theorem arg16_at12 : s12 V (Proc.devRef .tc main_arg16) = V (Proc.devRef .tc main_arg16) := by
  unfold s12 s11 s10 s9 s8 s7 s6 s5 s4 s3 s2 s1; simp only [List.take, List.drop]; after_reads_simp

/-- Argument 18 is still as launched after stretch 12. -/
theorem arg18_at12 : s12 V (Proc.devRef .tc main_arg18) = V (Proc.devRef .tc main_arg18) := by
  unfold s12 s11 s10 s9 s8 s7 s6 s5 s4 s3 s2 s1; simp only [List.take, List.drop]; after_reads_simp

/-- Argument 19 is still as launched after stretch 12. -/
theorem arg19_at12 : s12 V (Proc.devRef .tc main_arg19) = V (Proc.devRef .tc main_arg19) := by
  unfold s12 s11 s10 s9 s8 s7 s6 s5 s4 s3 s2 s1; simp only [List.take, List.drop]; after_reads_simp

/-- Argument 20 is still as launched after stretch 12. -/
theorem arg20_at12 : s12 V (Proc.devRef .tc main_arg20) = V (Proc.devRef .tc main_arg20) := by
  unfold s12 s11 s10 s9 s8 s7 s6 s5 s4 s3 s2 s1; simp only [List.take, List.drop]; after_reads_simp

/-- Argument 22 is still as launched after stretch 12. -/
theorem arg22_at12 : s12 V (Proc.devRef .tc main_arg22) = V (Proc.devRef .tc main_arg22) := by
  unfold s12 s11 s10 s9 s8 s7 s6 s5 s4 s3 s2 s1; simp only [List.take, List.drop]; after_reads_simp

/-- Argument 13 is still as launched after stretch 13. -/
theorem arg13_at13 : s13 V (Proc.devRef .tc main_arg13) = V (Proc.devRef .tc main_arg13) := by
  unfold s13 s12 s11 s10 s9 s8 s7 s6 s5 s4 s3 s2 s1; simp only [List.take, List.drop]; after_reads_simp

/-- Argument 17 is still as launched after stretch 13. -/
theorem arg17_at13 : s13 V (Proc.devRef .tc main_arg17) = V (Proc.devRef .tc main_arg17) := by
  unfold s13 s12 s11 s10 s9 s8 s7 s6 s5 s4 s3 s2 s1; simp only [List.take, List.drop]; after_reads_simp

/-- Argument 21 is still as launched after stretch 13. -/
theorem arg21_at13 : s13 V (Proc.devRef .tc main_arg21) = V (Proc.devRef .tc main_arg21) := by
  unfold s13 s12 s11 s10 s9 s8 s7 s6 s5 s4 s3 s2 s1; simp only [List.take, List.drop]; after_reads_simp

/-- `main_v1`, once computed, is unchanged up to the end of stretch 2. -/
theorem v1_at2 : s2 V (Proc.devRef .tc main_v1) = s1 V (Proc.devRef .tc main_v1) := by
  unfold s2; after_reads_simp

/-- `main_v3`, once computed, is unchanged up to the end of stretch 2. -/
theorem v3_at2 : s2 V (Proc.devRef .tc main_v3) = s1 V (Proc.devRef .tc main_v3) := by
  unfold s2; after_reads_simp

/-- `main_v1`, once computed, is unchanged up to the end of stretch 7. -/
theorem v1_at7 : s7 V (Proc.devRef .tc main_v1) = s1 V (Proc.devRef .tc main_v1) := by
  unfold s7 s6 s5 s4 s3 s2; simp only [List.take, List.drop]; after_reads_simp

/-- `main_v3`, once computed, is unchanged up to the end of stretch 7. -/
theorem v3_at7 : s7 V (Proc.devRef .tc main_v3) = s1 V (Proc.devRef .tc main_v3) := by
  unfold s7 s6 s5 s4 s3 s2; simp only [List.take, List.drop]; after_reads_simp

/-- `main_v8`, once computed, is unchanged up to the end of stretch 3. -/
theorem v8_at3 : s3 V (Proc.devRef .tc main_v8) = s2 V (Proc.devRef .tc main_v8) := by
  unfold s3; simp only [List.take]; after_reads_simp

/-- `main_v60`, once computed, is unchanged up to the end of stretch 5. -/
theorem v60_at5 : s5 V (Proc.devRef .tc main_v60) = s4 V (Proc.devRef .tc main_v60) := by
  unfold s5; after_reads_simp

/-- `main_v63`, once computed, is unchanged up to the end of stretch 5. -/
theorem v63_at5 : s5 V (Proc.devRef .tc main_v63) = s4 V (Proc.devRef .tc main_v63) := by
  unfold s5; after_reads_simp

/-- `main_v80`, once computed, is unchanged up to the end of stretch 8. -/
theorem v80_at8 : s8 V (Proc.devRef .tc main_v80) = s7 V (Proc.devRef .tc main_v80) := by
  unfold s8; simp only [List.take]; after_reads_simp

/-- `main_v132`, once computed, is unchanged up to the end of stretch 10. -/
theorem v132_at10 : s10 V (Proc.devRef .tc main_v132) = s9 V (Proc.devRef .tc main_v132) := by
  unfold s10; after_reads_simp

/-- `main_v135`, once computed, is unchanged up to the end of stretch 10. -/
theorem v135_at10 : s10 V (Proc.devRef .tc main_v135) = s9 V (Proc.devRef .tc main_v135) := by
  unfold s10; after_reads_simp

/-! ## The node layers -/

/-- The first convolution of the kernel is `layer1` of the arguments. -/
theorem conv1 : s4 V (Proc.devRef .tc main_v60) = (layer1 (V (Proc.devRef .tc main_arg0)) (V (Proc.devRef .tc main_arg1)) (V (Proc.devRef .tc main_arg3)) (V (Proc.devRef .tc main_arg4)) (V (Proc.devRef .tc main_arg5)) (V (Proc.devRef .tc main_arg6))) := by
  unfold s4; rw [conv1_read, v8_at3, arg5_at3, arg6_at3]
  unfold s3; rw [looped1_read, looped1_read', v1_at2, v3_at2]
  unfold s2; rw [relu_read]
  unfold s1; rw [starts_read, ends_read, project_read]; rfl

/-- Its column means. -/
theorem mean1 : s4 V (Proc.devRef .tc main_v63) = mean512 (s4 V (Proc.devRef .tc main_v60)) := by
  unfold s4; rw [mean1_read, conv1_read]

/-- Its column variances. -/
theorem var1 : s5 V (Proc.devRef .tc main_v64) = var512 (s4 V (Proc.devRef .tc main_v60)) (constantI S_ 32 0#32) := by
  unfold s5; rw [var1_read]; unfold s4; rw [correction1_read]

/-- The second convolution of the kernel is `layer2` of its first. -/
theorem conv2 : s9 V (Proc.devRef .tc main_v132) = layer2 (s4 V (Proc.devRef .tc main_v60)) (V (Proc.devRef .tc main_arg1)) (V (Proc.devRef .tc main_arg7)) (V (Proc.devRef .tc main_arg8)) (V (Proc.devRef .tc main_arg9)) (V (Proc.devRef .tc main_arg10)) := by
  unfold s9; rw [conv2_read, v80_at8, arg9_at8, arg10_at8]
  unfold s8; rw [looped2_read, looped2_read', v1_at7, v3_at7]
  unfold s7; rw [relu1_read]
  unfold s6; rw [norm1_read, var1, v60_at5, v63_at5, mean1, arg7_at5, arg8_at5]
  unfold s1; rw [starts_read, ends_read]; rfl

/-- Its column means. -/
theorem mean2 : s9 V (Proc.devRef .tc main_v135) = mean256 (s9 V (Proc.devRef .tc main_v132)) := by
  unfold s9; rw [mean2_read, conv2_read]

/-- Its column variances. -/
theorem var2 : s10 V (Proc.devRef .tc main_v136) = var256 (s9 V (Proc.devRef .tc main_v132)) (constantI S_ 32 0#32) := by
  unfold s10; rw [var2_read]; unfold s9; rw [correction2_read]

/-! ## What the launch finds -/

/-- The graphs' sums. -/
theorem sums : s13 V (Proc.devRef .tc main_v155) = pooled (s9 V (Proc.devRef .tc main_v132)) (V (Proc.devRef .tc main_arg2)) (V (Proc.devRef .tc main_arg11)) (V (Proc.devRef .tc main_arg12)) := by
  unfold s13; rw [sums_read, arg2_at12]
  unfold s12; rw [relu2_read]
  unfold s11; rw [norm2_read, var2, v132_at10, v135_at10, mean2, arg11_at10, arg12_at10]; rfl

/-- The graphs' counts, as a column. -/
theorem counts : s13 V (Proc.devRef .tc main_v160) = broadcastInDim S64x1 ![0] bcast_S64_S64x1_0 (graphCounts (V (Proc.devRef .tc main_arg2))) := by
  unfold s13; rw [counts_read, arg2_at12]

/-- A head parameter, as one row. -/
theorem row161 : s13 V (Proc.devRef .tc main_v161) = broadcastInDim S1x512 ![1] bcast_S512_S1x512_1 (V (Proc.devRef .tc main_arg14)) := by
  unfold s13; rw [row161_read, arg14_at12]

/-- A head parameter, as one row. -/
theorem row162 : s13 V (Proc.devRef .tc main_v162) = broadcastInDim S1x512 ![1] bcast_S512_S1x512_1 (V (Proc.devRef .tc main_arg15)) := by
  unfold s13; rw [row162_read, arg15_at12]

/-- A head parameter, as one row. -/
theorem row163 : s13 V (Proc.devRef .tc main_v163) = broadcastInDim S1x512 ![1] bcast_S512_S1x512_1 (V (Proc.devRef .tc main_arg16)) := by
  unfold s13; rw [row163_read, arg16_at12]

/-- A head parameter, as one row. -/
theorem row164 : s13 V (Proc.devRef .tc main_v164) = broadcastInDim S1x256 ![1] bcast_S256_S1x256_1 (V (Proc.devRef .tc main_arg18)) := by
  unfold s13; rw [row164_read, arg18_at12]

/-- A head parameter, as one row. -/
theorem row165 : s13 V (Proc.devRef .tc main_v165) = broadcastInDim S1x256 ![1] bcast_S256_S1x256_1 (V (Proc.devRef .tc main_arg19)) := by
  unfold s13; rw [row165_read, arg19_at12]

/-- A head parameter, as one row. -/
theorem row166 : s13 V (Proc.devRef .tc main_v166) = broadcastInDim S1x256 ![1] bcast_S256_S1x256_1 (V (Proc.devRef .tc main_arg20)) := by
  unfold s13; rw [row166_read, arg20_at12]

/-- A head parameter, as one row. -/
theorem row167 : s13 V (Proc.devRef .tc main_v167) = broadcastInDim S1x1 ![1] bcast_S1_S1x1_1 (V (Proc.devRef .tc main_arg22)) := by
  unfold s13; rw [row167_read, arg22_at12]

end Cert.Proof.HostPrefix

end
-- ==== Proof.HeadNorm.lean ====
/- The head over the real numbers: the kernel's dense layers and normalisations are the reference's. -/
module

public import proofs.«01_k».proof.Proof.Gen.KernelIdeal.Skeleton
public import proofs.«01_k».proof.Proof.Network
public import Idealize.ShloMosaic.Lib.KernelVsHost
public import Idealize.ShloMosaic.Lib.Pointwise

@[expose] public section

set_option maxRecDepth 16384
set_option maxHeartbeats 1000000

noncomputable section

namespace Cert.Proof.HeadNorm

open Idealize.ShloMosaic Cert.KernelIdeal Cert.KernelIdeal.Gen
open Cert.Proof.Network

/-! ## The count 64 -/

/-- The word of 64.0 reads as a positive number. -/
theorem count_pos : (0 : EReal) < Ideal.ofBits .f32 0x42800000#32 := by
  have h : Ideal.ofBits .f32 0x42800000#32 = ((64 : ℝ) : EReal) := by
    simp [Ideal.ofBits, Ideal.ieee, -EReal.coe_mul]; norm_num
  rw [h]; exact EReal.coe_pos.mpr (by norm_num)

/-- The count less the correction zero is the count. -/
theorem count_sub : (Ideal.ofBits .f32 0x42800000#32 : EReal) - (FloatOps.sitofp (F := Ideal) .f32 0#32 : Ideal .f32) = Ideal.ofBits .f32 0x42800000#32 := by
  have h : (FloatOps.sitofp (F := Ideal) .f32 0#32 : Ideal .f32) = 0 := sitofp_zero
  rw [h]; exact sub_zero _

/-! ## Width 512 -/

/-- A vector of 512 entries as one row. -/
abbrev row512 (x : FVec Ideal S512 .f32) : FVec Ideal S1x512 .f32 := broadcastInDim S1x512 ![1] bcast_S512_S1x512_1 x

/-- A row of 512 entries laid along each of the 64 rows. -/
abbrev down512 (x : FVec Ideal S1x512 .f32) : FVec Ideal S64x512 .f32 := broadcastTo S64x512 x broadcasts_S1x512_S64x512

/-- The kernel's column means over the 64 graphs, as one row. -/
def kMean512 (x : FVec Ideal S64x512 .f32) : FVec Ideal S1x512 .f32 :=
  divf (shapeCast S1x512 (multiReduction .add [0] S512 x 0x00000000#32 reduces_S64x512_S512 (.inl rfl) rfl) shapeCasts_S512_S1x512)
    (broadcast S1x512 (Scalar.ofBits .f32 0x42800000#32))

/-- The kernel's normalisation over the 64 graphs, with scale and shift as rows. -/
def kNorm512 (x : FVec Ideal S64x512 .f32) (g b : FVec Ideal S1x512 .f32) : FVec Ideal S64x512 .f32 :=
  addf (mulf (mulf (subf x (down512 (kMean512 x)))
      (down512 (rsqrt (addf (kMean512 (mulf (subf x (down512 (kMean512 x))) (subf x (down512 (kMean512 x)))))
        (broadcast S1x512 (Scalar.ofBits .f32 0x3727C5AC#32))))))
      (down512 (shapeCast S1x512 g shapeCasts_S1x512_S1x512)))
    (down512 (shapeCast S1x512 b shapeCasts_S1x512_S1x512))

/-- Width 512: the kernel's normalisation is the reference's. -/
theorem norm512_eq (x : FVec Ideal S64x512 .f32) (g b : FVec Ideal S512 .f32) :
    kNorm512 x (row512 g) (row512 b) = headNorm512 x g b := by
  funext i
  unfold kNorm512 kMean512 headNorm512 headCentred512 headFreedom
  pointwise
  rw [count_sub, if_pos count_pos]

/-! ## Width 256 -/

/-- A vector of 256 entries as one row. -/
abbrev row256 (x : FVec Ideal S256 .f32) : FVec Ideal S1x256 .f32 := broadcastInDim S1x256 ![1] bcast_S256_S1x256_1 x

/-- A row of 256 entries laid along each of the 64 rows. -/
abbrev down256 (x : FVec Ideal S1x256 .f32) : FVec Ideal S64x256 .f32 := broadcastTo S64x256 x broadcasts_S1x256_S64x256

/-- The kernel's column means over the 64 graphs, as one row. -/
def kMean256 (x : FVec Ideal S64x256 .f32) : FVec Ideal S1x256 .f32 :=
  divf (shapeCast S1x256 (multiReduction .add [0] S256 x 0x00000000#32 reduces_S64x256_S256 (.inl rfl) rfl) shapeCasts_S256_S1x256)
    (broadcast S1x256 (Scalar.ofBits .f32 0x42800000#32))

/-- The kernel's normalisation over the 64 graphs, with scale and shift as rows. -/
def kNorm256 (x : FVec Ideal S64x256 .f32) (g b : FVec Ideal S1x256 .f32) : FVec Ideal S64x256 .f32 :=
  addf (mulf (mulf (subf x (down256 (kMean256 x)))
      (down256 (rsqrt (addf (kMean256 (mulf (subf x (down256 (kMean256 x))) (subf x (down256 (kMean256 x)))))
        (broadcast S1x256 (Scalar.ofBits .f32 0x3727C5AC#32))))))
      (down256 (shapeCast S1x256 g shapeCasts_S1x256_S1x256)))
    (down256 (shapeCast S1x256 b shapeCasts_S1x256_S1x256))

/-- Width 256: the kernel's normalisation is the reference's. -/
theorem norm256_eq (x : FVec Ideal S64x256 .f32) (g b : FVec Ideal S256 .f32) :
    kNorm256 x (row256 g) (row256 b) = headNorm256 x g b := by
  funext i
  unfold kNorm256 kMean256 headNorm256 headCentred256 headFreedom
  pointwise
  rw [count_sub, if_pos count_pos]

end Cert.Proof.HeadNorm

end
-- ==== Proof.Head.lean ====
/- The whole head over the real numbers: what the kernel's launch computes from the sums, the counts and the parameters
   is the reference's head. -/
module

public import proofs.«01_k».proof.Proof.HeadNorm

@[expose] public section

set_option maxRecDepth 16384
set_option maxHeartbeats 1000000

noncomputable section

namespace Cert.Proof.Head

open Idealize.ShloMosaic Cert.KernelIdeal Cert.KernelIdeal.Gen
open Cert.Proof.Network Cert.Proof.HeadNorm

/-- The counts as a column. -/
abbrev column (x : FVec Ideal S64 .f32) : FVec Ideal S64x1 .f32 := broadcastInDim S64x1 ![0] bcast_S64_S64x1_0 x

/-- The last bias as a one by one array. -/
abbrev single (x : FVec Ideal S1 .f32) : FVec Ideal S1x1 .f32 := broadcastInDim S1x1 ![1] bcast_S1_S1x1_1 x

/-- The kernel's mean features of each graph, with the counts as a column. -/
def kMean (sums : FVec Ideal S64x256 .f32) (counts : FVec Ideal S64x1 .f32) : FVec Ideal S64x256 .f32 :=
  divf (shapeCast S64x256 sums shapeCasts_S64x256_S64x256)
    (broadcastTo S64x256 (maximumf (shapeCast S64x1 counts shapeCasts_S64x1_S64x1) (broadcast S64x1 (Scalar.ofBits .f32 0x3F800000#32)))
      broadcasts_S64x1_S64x256)

/-- The kernel's mean features of each graph are the reference's. -/
theorem mean_eq (sums : FVec Ideal S64x256 .f32) (counts : FVec Ideal S64 .f32) :
    kMean sums (column counts) = Host.divf sums (broadcastInDim S64x256 ![0, 1] Cert.ReferenceIdeal.Facts₀.bcast_S64x1_S64x256_0_1
      (column (maximumf counts (broadcastInDim S64 ![] bcast_S_S64 (constant S_ .f32 0x3F800000#32))))) := by
  funext i
  unfold kMean
  pointwise

/-- The kernel's first dense layer. -/
def kDense1 (sums : FVec Ideal S64x256 .f32) (counts : FVec Ideal S64x1 .f32) (w : FVec Ideal S256x512 .f32)
    (b : FVec Ideal S1x512 .f32) : FVec Ideal S64x512 .f32 :=
  addf (matmul dot_S64x256_S256x512_S64x512_1_0_0_1_n_n none (kMean sums counts) w (constant S64x512 .f32 0x00000000#32))
    (down512 (shapeCast S1x512 b shapeCasts_S1x512_S1x512))

/-- A row of 512 entries laid along each of the 64 rows, in both spellings. -/
theorem bias512_eq (b : FVec Ideal S512 .f32) : down512 (shapeCast S1x512 (row512 b) shapeCasts_S1x512_S1x512)
    = broadcastInDim S64x512 ![0, 1] Cert.ReferenceIdeal.Facts₀.bcast_S1x512_S64x512_0_1 (row512 b) := by
  funext i; pointwise

/-- A row of 256 entries laid along each of the 64 rows, in both spellings. -/
theorem bias256_eq (b : FVec Ideal S256 .f32) : down256 (shapeCast S1x256 (row256 b) shapeCasts_S1x256_S1x256)
    = broadcastInDim S64x256 ![0, 1] Cert.ReferenceIdeal.Facts₀.bcast_S1x256_S64x256_0_1 (row256 b) := by
  funext i; pointwise

/-- One number laid along each of the 64 rows, in both spellings. -/
theorem bias1_eq (b : FVec Ideal S1 .f32) : broadcastTo S64x1 (shapeCast S1x1 (single b) shapeCasts_S1x1_S1x1) broadcasts_S1x1_S64x1
    = broadcastInDim S64x1 ![0, 1] Cert.ReferenceIdeal.Facts₀.bcast_S1x1_S64x1_0_1 (single b) := by
  funext i; pointwise

/-- The kernel's first dense layer is the reference's. -/
theorem dense1_eq (sums : FVec Ideal S64x256 .f32) (counts : FVec Ideal S64 .f32) (w : FVec Ideal S256x512 .f32) (b : FVec Ideal S512 .f32) :
    kDense1 sums (column counts) w (row512 b) = dense1 sums counts w b := by
  unfold kDense1
  rw [matmul_zero_eq_dotGeneral, mean_eq, bias512_eq]
  rfl

/-- The kernel's second dense layer. -/
def kDense2 (x : FVec Ideal S64x512 .f32) (w : FVec Ideal S512x256 .f32) (b : FVec Ideal S1x256 .f32) : FVec Ideal S64x256 .f32 :=
  addf (matmul dot_S64x512_S512x256_S64x256_1_0_0_1_n_n none (maximumf x (broadcast S64x512 (Scalar.ofBits .f32 0x00000000#32))) w
      (constant S64x256 .f32 0x00000000#32))
    (down256 (shapeCast S1x256 b shapeCasts_S1x256_S1x256))

/-- The kernel's second dense layer is the reference's. -/
theorem dense2_eq (x : FVec Ideal S64x512 .f32) (w : FVec Ideal S512x256 .f32) (b : FVec Ideal S256 .f32) :
    kDense2 x w (row256 b) = dense2 x w b := by
  unfold kDense2
  rw [matmul_zero_eq_dotGeneral, bias256_eq]
  rfl

/-- The kernel's last dense layer. -/
def kDense3 (x : FVec Ideal S64x256 .f32) (w : FVec Ideal S256x1 .f32) (b : FVec Ideal S1x1 .f32) : FVec Ideal S64x1 .f32 :=
  addf (matmul dot_S64x256_S256x1_S64x1_1_0_0_1_n_n none (maximumf x (broadcast S64x256 (Scalar.ofBits .f32 0x00000000#32))) w
      (constant S64x1 .f32 0x00000000#32))
    (broadcastTo S64x1 (shapeCast S1x1 b shapeCasts_S1x1_S1x1) broadcasts_S1x1_S64x1)

/-- The kernel's last dense layer is the reference's. -/
theorem dense3_eq (x : FVec Ideal S64x256 .f32) (w : FVec Ideal S256x1 .f32) (b : FVec Ideal S1 .f32) :
    kDense3 x w (single b) = dense3 x w b := by
  unfold kDense3
  rw [matmul_zero_eq_dotGeneral, bias1_eq]
  rfl

/-- What the kernel's launch stores, from the arrays it loads. -/
def stored (sums : FVec Ideal S64x256 .f32) (counts : FVec Ideal S64x1 .f32)
    (w1 : FVec Ideal S256x512 .f32) (b1 g1 e1 : FVec Ideal S1x512 .f32) (w2 : FVec Ideal S512x256 .f32) (b2 g2 e2 : FVec Ideal S1x256 .f32)
    (w3 : FVec Ideal S256x1 .f32) (b3 : FVec Ideal S1x1 .f32) : FVec Ideal S64x1 .f32 :=
  k0_pay1 (k0_pay3 (k0_pay2 sums counts w1 b1 g1 e1) (Scalar.ofBits .f32 0x00000000#32) w2 b2 g2 e2 w3) (k0_pay4 b3)

/-- What the launch stores is its three dense layers and two normalisations. -/
theorem stored_eq_layers (sums : FVec Ideal S64x256 .f32) (counts : FVec Ideal S64x1 .f32)
    (w1 : FVec Ideal S256x512 .f32) (b1 g1 e1 : FVec Ideal S1x512 .f32) (w2 : FVec Ideal S512x256 .f32) (b2 g2 e2 : FVec Ideal S1x256 .f32)
    (w3 : FVec Ideal S256x1 .f32) (b3 : FVec Ideal S1x1 .f32) :
    stored sums counts w1 b1 g1 e1 w2 b2 g2 e2 w3 b3
      = kDense3 (kNorm256 (kDense2 (kNorm512 (kDense1 sums counts w1 b1) g1 e1) w2 b2) g2 e2) w3 b3 := rfl

/-- What the launch stores is the reference's head. -/
theorem stored_eq_head (sums : FVec Ideal S64x256 .f32) (counts : FVec Ideal S64 .f32)
    (w1 : FVec Ideal S256x512 .f32) (b1 g1 e1 : FVec Ideal S512 .f32) (w2 : FVec Ideal S512x256 .f32) (b2 g2 e2 : FVec Ideal S256 .f32)
    (w3 : FVec Ideal S256x1 .f32) (b3 : FVec Ideal S1 .f32) :
    stored sums (column counts) w1 (row512 b1) (row512 g1) (row512 e1) w2 (row256 b2) (row256 g2) (row256 e2) w3 (single b3)
      = head sums counts w1 b1 g1 e1 w2 b2 g2 e2 w3 b3 := by
  rw [stored_eq_layers, dense1_eq, norm512_eq, dense2_eq, norm256_eq, dense3_eq]
  rfl

end Cert.Proof.Head

end
-- ==== Proof.Launch.lean ====
/- The kernel's launch: at its one grid point every window is a whole array, so its output array ends as what the body
   stores from the whole input arrays. -/
module

public import proofs.«01_k».proof.Proof.Gen.KernelIdeal.Frame
public import Idealize.ShloMosaic.Lib.Pipeline.ValueKit
public import proofs.«01_k».proof.Proof.Head

@[expose] public section

set_option maxRecDepth 16384
set_option maxHeartbeats 1000000

noncomputable section

namespace Cert.Proof.Launch

open Idealize.ShloMosaic Idealize.ShloMosaic.TcCoe Cert.KernelIdeal Cert.KernelIdeal.Gen
open Cert.Proof.Head

variable (m : (ℓ : Loc nD τ sig) → Buf (Elt Ideal) ℓ) (c : Dev nD)

/-! ## Every window is its whole array -/

/-- Window 0 starts at the corner of its array. -/
theorem index0 : ∀ t : Fin cfg0.N, win0_0.index t = ![0, 0] := by decide +kernel

/-- Window 1 starts at the corner of its array. -/
theorem index1 : ∀ t : Fin cfg0.N, win0_1.index t = ![0, 0] := by decide +kernel

/-- Window 2 starts at the corner of its array. -/
theorem index2 : ∀ t : Fin cfg0.N, win0_2.index t = ![0, 0] := by decide +kernel

/-- Window 3 starts at the corner of its array. -/
theorem index3 : ∀ t : Fin cfg0.N, win0_3.index t = ![0, 0] := by decide +kernel

/-- Window 4 starts at the corner of its array. -/
theorem index4 : ∀ t : Fin cfg0.N, win0_4.index t = ![0, 0] := by decide +kernel

/-- Window 5 starts at the corner of its array. -/
theorem index5 : ∀ t : Fin cfg0.N, win0_5.index t = ![0, 0] := by decide +kernel

/-- Window 6 starts at the corner of its array. -/
theorem index6 : ∀ t : Fin cfg0.N, win0_6.index t = ![0, 0] := by decide +kernel

/-- Window 7 starts at the corner of its array. -/
theorem index7 : ∀ t : Fin cfg0.N, win0_7.index t = ![0, 0] := by decide +kernel

/-- Window 8 starts at the corner of its array. -/
theorem index8 : ∀ t : Fin cfg0.N, win0_8.index t = ![0, 0] := by decide +kernel

/-- Window 9 starts at the corner of its array. -/
theorem index9 : ∀ t : Fin cfg0.N, win0_9.index t = ![0, 0] := by decide +kernel

/-- Window 10 starts at the corner of its array. -/
theorem index10 : ∀ t : Fin cfg0.N, win0_10.index t = ![0, 0] := by decide +kernel

/-- Window 11 starts at the corner of its array. -/
theorem index11 : ∀ t : Fin cfg0.N, win0_11.index t = ![0, 0] := by decide +kernel

/-- Window 12 starts at the corner of its array. -/
theorem index12 : ∀ t : Fin cfg0.N, win0_12.index t = ![0, 0] := by decide +kernel

/-- The block of window 0 is its whole array. -/
theorem block0 (t : Fin cfg0.N) : iblk m c 0 t = V m c main_v155 := by
  funext y; blk_ext [iblk, V, index0 t]

/-- The block of window 1 is its whole array. -/
theorem block1 (t : Fin cfg0.N) : iblk m c 1 t = V m c main_v160 := by
  funext y; blk_ext [iblk, V, index1 t]

/-- The block of window 2 is its whole array. -/
theorem block2 (t : Fin cfg0.N) : iblk m c 2 t = V m c main_arg13 := by
  funext y; blk_ext [iblk, V, index2 t]

/-- The block of window 3 is its whole array. -/
theorem block3 (t : Fin cfg0.N) : iblk m c 3 t = V m c main_v161 := by
  funext y; blk_ext [iblk, V, index3 t]

/-- The block of window 4 is its whole array. -/
theorem block4 (t : Fin cfg0.N) : iblk m c 4 t = V m c main_v162 := by
  funext y; blk_ext [iblk, V, index4 t]

/-- The block of window 5 is its whole array. -/
theorem block5 (t : Fin cfg0.N) : iblk m c 5 t = V m c main_v163 := by
  funext y; blk_ext [iblk, V, index5 t]

/-- The block of window 6 is its whole array. -/
theorem block6 (t : Fin cfg0.N) : iblk m c 6 t = V m c main_arg17 := by
  funext y; blk_ext [iblk, V, index6 t]

/-- The block of window 7 is its whole array. -/
theorem block7 (t : Fin cfg0.N) : iblk m c 7 t = V m c main_v164 := by
  funext y; blk_ext [iblk, V, index7 t]

/-- The block of window 8 is its whole array. -/
theorem block8 (t : Fin cfg0.N) : iblk m c 8 t = V m c main_v165 := by
  funext y; blk_ext [iblk, V, index8 t]

/-- The block of window 9 is its whole array. -/
theorem block9 (t : Fin cfg0.N) : iblk m c 9 t = V m c main_v166 := by
  funext y; blk_ext [iblk, V, index9 t]

/-- The block of window 10 is its whole array. -/
theorem block10 (t : Fin cfg0.N) : iblk m c 10 t = V m c main_arg21 := by
  funext y; blk_ext [iblk, V, index10 t]

/-- The block of window 11 is its whole array. -/
theorem block11 (t : Fin cfg0.N) : iblk m c 11 t = V m c main_v167 := by
  funext y; blk_ext [iblk, V, index11 t]

/-! ## The output array -/

/-- After the launch the output array is what the body stores from the whole input arrays. -/
theorem output_eq : (dats m 0 c).arrAt 12 (cfgs 0).N = stored (V m c main_v155) (V m c main_v160) (V m c main_arg13) (V m c main_v161) (V m c main_v162) (V m c main_v163) (V m c main_arg17) (V m c main_v164) (V m c main_v165) (V m c main_v166) (V m c main_arg21) (V m c main_v167) := by
  refine (dats m 0 c).arrAt_eq_of_covers 12 _ (by decide +kernel) fun t hf y => ?_
  blk_simp
  rw [after0_12]
  frame_out
  rw [block0, block1, block2, block3, block4, block5, block6, block7, block8, block9, block10, block11]
  unfold stored
  congr 1
  blk_ext [index12 t]

end Cert.Proof.Launch

end
-- ==== Proof.KernelValue.lean ====
/- The kernel's output array, over the real numbers, as the network of its arguments. -/
module

public import proofs.«01_k».proof.Proof.HostPrefix
public import proofs.«01_k».proof.Proof.Launch

@[expose] public section

set_option maxRecDepth 16384
set_option maxHeartbeats 1000000

noncomputable section

namespace Cert.Proof.KernelValue

open Idealize.ShloMosaic Idealize.ShloMosaic.TcCoe Cert.KernelIdeal Cert.KernelIdeal.Gen
open Cert.Proof.Head Cert.Proof.Network Cert.Proof.HostPrefix

variable (m : (ℓ : Loc nD τ sig) → Buf (Elt Ideal) ℓ) (c : Dev nD)

/-- What the launch finds in a buffer is what the stretches of host operations leave there. -/
theorem entry_eq (r : Ref sig .tc) : V m c r = s13 (fun b => m (c, b)) (Proc.devRef .tc r) :=
  congrFun (prefix_eq _) _

/-- The output array after the launch is the network of the arguments. -/
theorem output_eq_network : (dats m 0 c).arrAt 12 (cfgs 0).N
    = network (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19))
      (m ((c : Thread nD τ).loc main_arg20))
      (m ((c : Thread nD τ).loc main_arg21))
      (m ((c : Thread nD τ).loc main_arg22)) := by
  refine (Launch.output_eq m c).trans ?_
  rw [(entry_eq m c main_v155).trans (sums _),
    (entry_eq m c main_v160).trans (counts _),
    (entry_eq m c main_arg13).trans (arg13_at13 _),
    (entry_eq m c main_v161).trans (row161 _),
    (entry_eq m c main_v162).trans (row162 _),
    (entry_eq m c main_v163).trans (row163 _),
    (entry_eq m c main_arg17).trans (arg17_at13 _),
    (entry_eq m c main_v164).trans (row164 _),
    (entry_eq m c main_v165).trans (row165 _),
    (entry_eq m c main_v166).trans (row166 _),
    (entry_eq m c main_arg21).trans (arg21_at13 _),
    (entry_eq m c main_v167).trans (row167 _), conv2, conv1]
  exact stored_eq_head _ _ _ _ _ _ _ _ _ _ _ _

end Cert.Proof.KernelValue

end
-- ==== Proof.KernelRun.lean ====
/- The kernel's run over the real numbers: its result is the network of its arguments. -/
module

public import proofs.«01_k».proof.Defs
public import proofs.«01_k».proof.Proof.KernelValue

@[expose] public section

set_option maxRecDepth 16384
set_option maxHeartbeats 2000000

noncomputable section

namespace Cert.Proof.KernelRun

open Idealize.ShloMosaic Idealize.SL.Sem Cert.KernelIdeal Cert.KernelIdeal.Gen

variable (m : (ℓ : Loc nD τ sig) → Buf (Elt Ideal) ℓ)

/-- The network of the kernel's arguments on one device, as a vector of the 64 graphs. -/
def value (c : Dev nD) : FVec Ideal S64 .f32 :=
  shapeCast S64 (Network.network (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))) shapeCasts_S64x1_S64

/-- The one host operation after the launch drops the output's axis of size one. -/
theorem tail_read (W : Valuation τ sig (Elt Ideal)) : StableHlo.after Gen.hostOps1 W (Proc.devRef .tc main_v169)
    = shapeCast S64 (W (Proc.devRef .tc main_v168)) shapeCasts_S64x1_S64 := by
  after_reads_simp; rfl

/-- What the lines after the launch leave in the result is the launch's output, without its axis of size one. -/
theorem tail_eq (c : Dev nD) : Pipeline.afterTail₀ cfgs (dats m) 0 (V0 m) [hostOps1] c main_v169
    = shapeCast S64 ((dats m 0 c).arrAt 12 (cfgs 0).N) shapeCasts_S64x1_S64 :=
  (tail_read _).trans (congrArg (fun x => shapeCast S64 x shapeCasts_S64x1_S64)
    (Pipeline.withArrays_arr spec0 (by decide) c (V0 m c) (fun w => (dats m 0 c).arrAt w (cfgs 0).N) 12))

/-- Every execution of the kernel ends with the network of the arguments in its result. -/
theorem result (g : Dev nD → PrngReg) : θ_run (defs (F := Ideal)) (onTc (τ := τ) (main (F := Ideal))) ⟨m, fun _ => 0, g⟩
    (fun r => ∀ c : Dev nD, r.2.mem ((c.tc : Thread nD τ).loc main_v169) = value m c) := by
  run_from (Gen.run_main m g)
  exact (tail_eq m c).trans (congrArg (fun x => shapeCast S64 x shapeCasts_S64x1_S64) (KernelValue.output_eq_network m c))

end Cert.Proof.KernelRun

end
-- ==== Proof.RefRead.lean ====
/- The reference's run in the words of Network.lean: its result is the head of the graphs' sums and counts. -/
module

public import proofs.«01_k».proof.Proof.Gen.ReferenceIdeal.Run
public import proofs.«01_k».proof.Proof.Network

@[expose] public section

noncomputable section

namespace Cert.Proof.RefRead

open Idealize.ShloMosaic Idealize.ShloMosaic.StableHlo Cert.ReferenceIdeal Cert.ReferenceIdeal.Gen Cert.ReferenceIdeal.Value
open Cert.Proof.Network

variable {F : FTy → Type} [FloatOps F]

variable (V : Valuation τ sig (Elt F))

/-- The reference's first convolution is `layer1` of its arguments. -/
theorem conv1_eq : res_main_v60 V = layer1 (V (Proc.devRef .tc main_arg0)) (V (Proc.devRef .tc main_arg1)) (V (Proc.devRef .tc main_arg3))
    (V (Proc.devRef .tc main_arg4)) (V (Proc.devRef .tc main_arg5)) (V (Proc.devRef .tc main_arg6)) := rfl

/-- The reference's second convolution is `layer2` of its first. -/
theorem conv2_eq : res_main_v132 V = layer2 (res_main_v60 V) (V (Proc.devRef .tc main_arg1)) (V (Proc.devRef .tc main_arg7))
    (V (Proc.devRef .tc main_arg8)) (V (Proc.devRef .tc main_arg9)) (V (Proc.devRef .tc main_arg10)) := rfl

/-- The reference's first dense layer reads the pooled sums of its second convolution and the counts. -/
theorem dense1_eq : res_main_v168 V = dense1
    (pooled (res_main_v132 V) (V (Proc.devRef .tc main_arg2)) (V (Proc.devRef .tc main_arg11)) (V (Proc.devRef .tc main_arg12)))
    (graphCounts (V (Proc.devRef .tc main_arg2))) (V (Proc.devRef .tc main_arg13)) (V (Proc.devRef .tc main_arg14)) := rfl

/-- The reference's second dense layer reads its first, normalised. -/
theorem dense2_eq : res_main_v192 V = dense2
    (headNorm512 (res_main_v168 V) (V (Proc.devRef .tc main_arg15)) (V (Proc.devRef .tc main_arg16)))
    (V (Proc.devRef .tc main_arg17)) (V (Proc.devRef .tc main_arg18)) := rfl

/-- The head over the reference's second dense layer is the network of the arguments. -/
theorem network_eq : dense3 (headNorm256 (res_main_v192 V) (V (Proc.devRef .tc main_arg19)) (V (Proc.devRef .tc main_arg20)))
      (V (Proc.devRef .tc main_arg21)) (V (Proc.devRef .tc main_arg22))
    = network (V (Proc.devRef .tc main_arg0))
    (V (Proc.devRef .tc main_arg1))
    (V (Proc.devRef .tc main_arg2))
    (V (Proc.devRef .tc main_arg3))
    (V (Proc.devRef .tc main_arg4))
    (V (Proc.devRef .tc main_arg5))
    (V (Proc.devRef .tc main_arg6))
    (V (Proc.devRef .tc main_arg7))
    (V (Proc.devRef .tc main_arg8))
    (V (Proc.devRef .tc main_arg9))
    (V (Proc.devRef .tc main_arg10))
    (V (Proc.devRef .tc main_arg11))
    (V (Proc.devRef .tc main_arg12))
    (V (Proc.devRef .tc main_arg13))
    (V (Proc.devRef .tc main_arg14))
    (V (Proc.devRef .tc main_arg15))
    (V (Proc.devRef .tc main_arg16))
    (V (Proc.devRef .tc main_arg17))
    (V (Proc.devRef .tc main_arg18))
    (V (Proc.devRef .tc main_arg19))
    (V (Proc.devRef .tc main_arg20))
    (V (Proc.devRef .tc main_arg21))
    (V (Proc.devRef .tc main_arg22)) := by
  rw [dense2_eq, dense1_eq, conv2_eq, conv1_eq]; rfl

end Cert.Proof.RefRead

end
-- ==== Proof.RefRun.lean ====
/- The reference's run over the real numbers: its result is the network of its arguments. -/
module

public import proofs.«01_k».proof.Defs
public import proofs.«01_k».proof.Proof.RefRead

@[expose] public section

set_option maxRecDepth 16384
set_option maxHeartbeats 2000000

noncomputable section

namespace Cert.Proof.RefRun

open Idealize.ShloMosaic Idealize.SL.Sem Cert.ReferenceIdeal Cert.ReferenceIdeal.Gen

variable (m : (ℓ : Loc nD τ sig) → Buf (Elt Ideal) ℓ)

/-- The network of the reference's arguments on one device, as a vector of the 64 graphs. -/
def value (c : Dev nD) : FVec Ideal S64 .f32 :=
  shapeCast S64 (Network.network (F := Ideal) (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17))
      (m ((c.tc : Thread Cert.ReferenceIdeal.nD Cert.ReferenceIdeal.τ).loc Cert.ReferenceIdeal.main_arg18))
      (m ((c.tc : Thread Cert.ReferenceIdeal.nD Cert.ReferenceIdeal.τ).loc Cert.ReferenceIdeal.main_arg19))
      (m ((c.tc : Thread Cert.ReferenceIdeal.nD Cert.ReferenceIdeal.τ).loc Cert.ReferenceIdeal.main_arg20))
      (m ((c.tc : Thread Cert.ReferenceIdeal.nD Cert.ReferenceIdeal.τ).loc Cert.ReferenceIdeal.main_arg21))
      (m ((c.tc : Thread Cert.ReferenceIdeal.nD Cert.ReferenceIdeal.τ).loc Cert.ReferenceIdeal.main_arg22))) shapeCasts_S64x1_S64

/-- Every execution of the reference ends with the network of the arguments in its result. -/
theorem result (g : Dev nD → PrngReg) : θ_run (defs (F := Ideal)) (onTc (τ := τ) (main (F := Ideal))) ⟨m, fun _ => 0, g⟩
    (fun r => ∀ c : Dev nD, r.2.mem ((c.tc : Thread nD τ).loc main_v217) = value m c) :=
  (θ_run _ _ _).mono (fun _ h c => (h c).1.trans (congrArg (fun x => shapeCast S64 x shapeCasts_S64x1_S64)
    (RefRead.network_eq (StableHlo.launchContents m c)))) (Value.run m g)

/-- The reference leaves its arguments alone, and has no counters to leave nonzero. -/
theorem quiescent : Cert.quiescent_ReferenceIdeal := fun m g _ =>
  (θ_run _ _ _).mono (fun _ h => ⟨fun c => (h c).2, sem_eq_zero_of_no_sems rfl _⟩) (Value.run m g)

end Cert.Proof.RefRun

end
-- ==== Proof.lean ====
/- The five claims of Defs.lean, assembled: the frames of the kernel (printed and idealized) and of the reference,
   the idealization's faithfulness, and the equality of the two results over the real numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.KernelRun
public import proofs.«01_k».proof.Proof.RefRun
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The two values agree where the arguments do. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    RefRun.value m' c = KernelRun.value m c := by
  unfold RefRun.value KernelRun.value
  rw [h0, h1, h2, h3, h4, h5, h6, h7, h8, h9, h10, h11, h12, h13, h14, h15, h16, h17, h18, h19, h20, h21, h22]

/-- From memories that agree on the arguments, the kernel and the reference end with the same result, their arguments unchanged. -/
theorem algebraic : Cert.algebraic_KernelIdeal_ReferenceIdeal := by
  intro m g m' g' _ hagree
  refine ⟨fun c => KernelRun.value m c, (θ_run _ _ _).mono (fun _ h c => ⟨h.1 c, h.2 c⟩)
      (θ_run_and (KernelRun.result m g) (Cert.KernelIdeal.Gen.unchanged m g)),
    (θ_run _ _ _).mono (fun _ h c => ⟨(h.1 c).trans ?_, (h.2 c).2⟩) (θ_run_and (RefRun.result m' g') (Cert.ReferenceIdeal.Value.run m' g'))⟩
  obtain ⟨h0, h1, h2, h3, h4, h5, h6, h7, h8, h9, h10, h11, h12, h13, h14, h15, h16, h17, h18, h19, h20, h21, h22⟩ := hagree c
  exact value_eq m m' c h0 h1 h2 h3 h4 h5 h6 h7 h8 h9 h10 h11 h12 h13 h14 h15 h16 h17 h18 h19 h20 h21 h22

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, RefRun.quiescent, trivial, algebraic⟩

end Cert.Proof

end
